-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_experts_named : Cert.Pre_experts_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal (hKernel3Ideal := hKernel3Ideal) (hReference3Ideal := hReference3Ideal)
-- ==== Pre_experts_named.lean ====
abbrev S288 : Shape := ⟨1, ![288]⟩
abbrev S147456x512 : Shape := ⟨2, ![147456, 512]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S287 : Shape := ⟨1, ![287]⟩

class Facts : Prop where
  bcast_S_S288 : S_.BroadcastsInDim S288 (![] : Fin 0 → Fin S288.rank)
  reducesTo_S288_S_d0 : S288.ReducesTo [0] S_
  h_S_ : 0 < S_.numel
  slices_S288_S287_1 : S288.Slices ![1] S287
  slices_S288_S287_0 : S288.Slices ![0] S287
  bcast_S_S287 : S_.BroadcastsInDim S287 (![] : Fin 0 → Fin S287.rank)
  reducesTo_S287_S_d0 : S287.ReducesTo [0] S_

variable [Facts]

def fn_part1 {F : FTy → Type} [FloatOps F] (main_v5 : IVec S_ 1) (main_v17 : IVec S_ 1) : IVec S_ 1 :=
  let main_v18 : IVec S_ 1 := andi main_v5 main_v17
  main_v18

def fn {F : FTy → Type} [FloatOps F] (main_arg0 : IVec S288 32) (main_arg1 : IVec S288 32) (main_arg2 : IVec S147456x512 32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S287 32 := (extractStridedSlice S287 ![1] · slices_S288_S287_1) main_arg0
  let main_v7 : IVec S287 32 := (extractStridedSlice S287 ![0] · slices_S288_S287_0) main_arg0
  let main_v8 : IVec S287 1 := cmpi .ne main_v6 main_v7
  let main_v9 : IVec S287 32 := (extractStridedSlice S287 ![1] · slices_S288_S287_1) main_arg1
  let main_c_2 : IVec S_ 32 := constantI S_ 32 0#32
  let main_v10 : IVec S287 32 := broadcastInDim S287 ![] bcast_S_S287 main_c_2
  let main_v11 : IVec S287 1 := cmpi .sle main_v9 main_v10
  let main_v12 : IVec S287 1 := ori main_v8 main_v11
  let main_v13 : IVec S287 32 := (extractStridedSlice S287 ![0] · slices_S288_S287_0) main_arg1
  let main_c_3 : IVec S_ 32 := constantI S_ 32 0#32
  let main_v14 : IVec S287 32 := broadcastInDim S287 ![] bcast_S_S287 main_c_3
  let main_v15 : IVec S287 1 := cmpi .sgt main_v13 main_v14
  let main_v16 : IVec S287 1 := ori main_v12 main_v15
  let main_c_4 : IVec S_ 1 := constantI S_ 1 1#1
  let main_v17 : IVec S_ 1 := (fun x v => Host.reduce IntOp.andi x v reducesTo_S287_S_d0 h_S_) main_v16 main_c_4
  fn_part1 (F := F) main_v5 main_v17
-- ==== Pre_finite.lean ====
abbrev S8x4096x512 : Shape := ⟨3, ![8, 4096, 512]⟩
abbrev S8x4096x128 : Shape := ⟨3, ![8, 4096, 128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x512 .f32) (main_arg1 : FVec F S8x4096x128 .f32) (main_arg2 : FVec F S8x4096x128 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  let main_v9 : FVec F S8x4096x128 .f32 := Host.absf main_arg2
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  let main_c_3 : IVec S_ 1 := constantI S_ 1 1#1
  let main_v12 : IVec S_ 1 := (fun x v => Host.reduce IntOp.andi x v reducesTo_S8x4096x128_S_d0_1_2 h_S_) main_v11 main_c_3
  let main_v13 : IVec S_ 1 := andi main_v8 main_v12
  main_v13
-- ==== Kernel.lean ====
abbrev S8x4096x512 : Shape := ⟨3, ![8, 4096, 512]⟩
abbrev S8x4096x128 : Shape := ⟨3, ![8, 4096, 128]⟩
abbrev S_ : Shape := ⟨0, ![]⟩
abbrev S32768x512 : Shape := ⟨2, ![32768, 512]⟩
abbrev S32768x128 : Shape := ⟨2, ![32768, 128]⟩
abbrev S256x512 : Shape := ⟨2, ![256, 512]⟩
abbrev S4096x128 : Shape := ⟨2, ![4096, 128]⟩
abbrev S128x4096 : Shape := ⟨2, ![128, 4096]⟩
abbrev S2x8x128 : Shape := ⟨3, ![2, 8, 128]⟩
abbrev S512x256 : Shape := ⟨2, ![512, 256]⟩
abbrev S8x64 : Shape := ⟨2, ![8, 64]⟩
abbrev S4096x64 : Shape := ⟨2, ![4096, 64]⟩
abbrev S8x4096 : Shape := ⟨2, ![8, 4096]⟩
abbrev S1x8x4096 : Shape := ⟨3, ![1, 8, 4096]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S256x64 : Shape := ⟨2, ![256, 64]⟩
abbrev S1024x64 : Shape := ⟨2, ![1024, 64]⟩
abbrev S80x1024 : Shape := ⟨2, ![80, 1024]⟩
abbrev S16x1024 : Shape := ⟨2, ![16, 1024]⟩
abbrev S8x1024 : Shape := ⟨2, ![8, 1024]⟩
abbrev S1x1024 : Shape := ⟨2, ![1, 1024]⟩
abbrev S1x1 : Shape := ⟨2, ![1, 1]⟩
abbrev S64x1024 : Shape := ⟨2, ![64, 1024]⟩
abbrev S1024x1024 : Shape := ⟨2, ![1024, 1024]⟩
abbrev S64x256 : Shape := ⟨2, ![64, 256]⟩
abbrev S1x1x1024 : Shape := ⟨3, ![1, 1, 1024]⟩
abbrev S16x64x1024 : Shape := ⟨3, ![16, 64, 1024]⟩
abbrev S8x8x1024 : Shape := ⟨3, ![8, 8, 1024]⟩
abbrev S1024 : Shape := ⟨1, ![1024]⟩

abbrev nBuf : Space → Nat
  | .hbm => 16
  | .vmem => 11
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S32768x512, .bf16⟩
  | .hbm, ⟨11, _⟩ => ⟨S32768x128, .f32⟩
  | .hbm, ⟨12, _⟩ => ⟨S32768x128, .bf16⟩
  | .hbm, ⟨13, _⟩ => ⟨S32768x128, .f32⟩
  | .hbm, ⟨14, _⟩ => ⟨S32768x128, .bf16⟩
  | .hbm, ⟨15, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x512, .bf16⟩
  | .local _ .vmem, ⟨7, _⟩ => ⟨S256x512, .bf16⟩
  | .local _ .vmem, ⟨8, _⟩ => ⟨S128x4096, .bf16⟩
  | .local _ .vmem, ⟨9, _⟩ => ⟨S2x8x128, .f32⟩
  | .local _ .vmem, ⟨10, _⟩ => ⟨S512x256, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x512 : Shape := ⟨3, ![8, 4096, 512]⟩
abbrev S8x4096x128 : Shape := ⟨3, ![8, 4096, 128]⟩
abbrev S8x4096x2x4x64 : Shape := ⟨5, ![8, 4096, 2, 4, 64]⟩
abbrev S_ : Shape := ⟨0, ![]⟩
abbrev S8x4096x2x64 : Shape := ⟨4, ![8, 4096, 2, 64]⟩
abbrev S8x2x4096x4096x4 : Shape := ⟨5, ![8, 2, 4096, 4096, 4]⟩
abbrev S8x2x4x4096x4096 : Shape := ⟨5, ![8, 2, 4, 4096, 4096]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S32768x512 : Shape := ⟨2, ![32768, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S8x4096x2x4x64, .f32⟩
  | .hbm, ⟨4, _⟩ => ⟨S_, .f32⟩
  | .hbm, ⟨5, _⟩ => ⟨S8x4096x2x4x64, .f32⟩
  | .hbm, ⟨6, _⟩ => ⟨S8x4096x2x4x64, .f32⟩
  | .hbm, ⟨7, _⟩ => ⟨S8x4096x2x64, .f32⟩
  | .hbm, ⟨8, _⟩ => ⟨S8x4096x2x64, .f32⟩
  | .hbm, ⟨9, _⟩ => ⟨S8x2x4096x4096x4, .f32⟩
  | .hbm, ⟨10, _⟩ => ⟨S8x2x4x4096x4096, .f32⟩
  | .hbm, ⟨11, _⟩ => ⟨S_, .f32⟩
  | .hbm, ⟨12, _⟩ => ⟨S8x2x4x4096, .f32⟩
  | .hbm, ⟨13, _⟩ => ⟨S_, .f32⟩
  | .hbm, ⟨14, _⟩ => ⟨S8x2x4x4096, .f32⟩
  | .hbm, ⟨15, _⟩ => ⟨S8x2x4x4096, .f32⟩
  | .hbm, ⟨16, _⟩ => ⟨S8x2x4x4096x1, .f32⟩
  | .hbm, ⟨17, _⟩ => ⟨S8x2x4x4096x4096, .f32⟩
  | .hbm, ⟨18, _⟩ => ⟨S8x2x4x4096x4096, .f32⟩
  | .hbm, ⟨19, _⟩ => ⟨S8x2x4x4096x4096, .f32⟩
  | .hbm, ⟨20, _⟩ => ⟨S_, .f32⟩
  | .hbm, ⟨21, _⟩ => ⟨S8x2x4x4096, .f32⟩
  | .hbm, ⟨22, _⟩ => ⟨S8x2x4x4096x1, .f32⟩
  | .hbm, ⟨23, _⟩ => ⟨S8x2x4x4096x4096, .f32⟩
  | .hbm, ⟨24, _⟩ => ⟨S8x2x4x4096x4096, .f32⟩
  | .hbm, ⟨25, _⟩ => ⟨S8x2x64x4x4096, .f32⟩
  | .hbm, ⟨26, _⟩ => ⟨S8x4096x2x4x64, .f32⟩
  | .hbm, ⟨27, _⟩ => ⟨S32768x512, .f32⟩
  | .hbm, ⟨28, _⟩ => ⟨S32768x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S288 : Shape := ⟨1, ![288]⟩
abbrev S147456x512 : Shape := ⟨2, ![147456, 512]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S147456x1024 : Shape := ⟨2, ![147456, 1024]⟩
abbrev S512x512 : Shape := ⟨2, ![512, 512]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S1024x512 : Shape := ⟨2, ![1024, 512]⟩
abbrev S1x1x512 : Shape := ⟨3, ![1, 1, 512]⟩
abbrev S1x512 : Shape := ⟨2, ![1, 512]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S147456x512, .i32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_off3 (i : grid0.Coords) : Fin 1 → Nat :=
  let arg0 : BitVec 32 := BitVec.ofNat 32 (i 0).val
  let v21 : Index := Scalar.indexCast arg0
  ![v21.toNat]
def k0_cond2 (v1 : BitVec 32) : BitVec 1 :=
  let c0_i32 : BitVec 32 := 0#32
  let v2 : BitVec 1 := Scalar.cmpi .sgt v1 c0_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c0_i32 : BitVec 32 := 0#32
  let v2 : BitVec 1 := Scalar.cmpi .sgt v1 c0_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288 : Shape := ⟨1, ![288]⟩
abbrev S147456x512 : Shape := ⟨2, ![147456, 512]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512 : Shape := ⟨1, ![512]⟩
abbrev S_ : Shape := ⟨0, ![]⟩
abbrev S147456x1024 : Shape := ⟨2, ![147456, 1024]⟩
abbrev S288x512x1024 : Shape := ⟨3, ![288, 512, 1024]⟩
abbrev S1x512 : Shape := ⟨2, ![1, 512]⟩
abbrev S288x1 : Shape := ⟨2, ![288, 1]⟩
abbrev S288x512 : Shape := ⟨2, ![288, 512]⟩
abbrev S288x512x1 : Shape := ⟨3, ![288, 512, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S288x1x1 : Shape := ⟨3, ![288, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S147456x512, .i32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S512, .i32⟩
  | .hbm, ⟨8, _⟩ => ⟨S_, .i32⟩
  | .hbm, ⟨9, _⟩ => ⟨S147456x512, .i32⟩
  | .hbm, ⟨10, _⟩ => ⟨S147456x512, .i32⟩
  | .hbm, ⟨11, _⟩ => ⟨S147456x512, .f32⟩
  | .hbm, ⟨12, _⟩ => ⟨S_, .i32⟩
  | .hbm, ⟨13, _⟩ => ⟨S147456x512, .i32⟩
  | .hbm, ⟨14, _⟩ => ⟨S147456x512, .i32⟩
  | .hbm, ⟨15, _⟩ => ⟨S147456x512, .f32⟩
  | .hbm, ⟨16, _⟩ => ⟨S147456x1024, .f32⟩
  | .hbm, ⟨17, _⟩ => ⟨S288x512x1024, .f32⟩
  | .hbm, ⟨18, _⟩ => ⟨S1x512, .i32⟩
  | .hbm, ⟨19, _⟩ => ⟨S288x1, .i32⟩
  | .hbm, ⟨20, _⟩ => ⟨S288x512, .i32⟩
  | .hbm, ⟨21, _⟩ => ⟨S288x512, .i32⟩
  | .hbm, ⟨22, _⟩ => ⟨S288x512, .i1⟩
  | .hbm, ⟨23, _⟩ => ⟨S288x512x1, .i1⟩
  | .hbm, ⟨24, _⟩ => ⟨S_, .f32⟩
  | .hbm, ⟨25, _⟩ => ⟨S_, .f32⟩
  | .hbm, ⟨26, _⟩ => ⟨S288x512x1024, .i1⟩
  | .hbm, ⟨27, _⟩ => ⟨S288x512x1024, .f32⟩
  | .hbm, ⟨28, _⟩ => ⟨S288x512x1024, .f32⟩
  | .hbm, ⟨29, _⟩ => ⟨S_, .i32⟩
  | .hbm, ⟨30, _⟩ => ⟨S288, .i32⟩
  | .hbm, ⟨31, _⟩ => ⟨S288, .i1⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S288, .i32⟩
  | .hbm, ⟨36, _⟩ => ⟨S288x1, .i32⟩
  | .hbm, ⟨37, _⟩ => ⟨S288x1024x2048, .f32⟩
  | .hbm, ⟨38, _⟩ => ⟨S288x512x2048, .f32⟩
  | .hbm, ⟨39, _⟩ => ⟨S_, .i32⟩
  | .hbm, ⟨40, _⟩ => ⟨S288, .i32⟩
  | .hbm, ⟨41, _⟩ => ⟨S288, .i1⟩
  | .hbm, ⟨42, _⟩ => ⟨S_, .i32⟩
  | .hbm, ⟨43, _⟩ => ⟨S288, .i32⟩
  | .hbm, ⟨44, _⟩ => ⟨S288, .i32⟩
  | .hbm, ⟨45, _⟩ => ⟨S288, .i32⟩
  | .hbm, ⟨46, _⟩ => ⟨S288x1, .i32⟩
  | .hbm, ⟨47, _⟩ => ⟨S288x1x2048, .f32⟩
  | .hbm, ⟨48, _⟩ => ⟨S288x512x2048, .f32⟩
  | .hbm, ⟨49, _⟩ => ⟨S288x512x2048, .f32⟩
  | .hbm, ⟨50, _⟩ => ⟨S288x512x1024, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S288x512x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S_, .f32⟩
  | .hbm, ⟨64, _⟩ => ⟨S288x512x1024, .f32⟩
  | .hbm, ⟨65, _⟩ => ⟨S288x512x1024, .f32⟩
  | .hbm, ⟨66, _⟩ => ⟨S288x512x1024, .f32⟩
  | .hbm, ⟨67, _⟩ => ⟨S288x512x1024, .f32⟩
  | .hbm, ⟨68, _⟩ => ⟨S_, .f32⟩
  | .hbm, ⟨69, _⟩ => ⟨S288x512x1024, .f32⟩
  | .hbm, ⟨70, _⟩ => ⟨S288x512x1024, .f32⟩
  | .hbm, ⟨71, _⟩ => ⟨S_, .f32⟩
  | .hbm, ⟨72, _⟩ => ⟨S288x512x1024, .f32⟩
  | .hbm, ⟨73, _⟩ => ⟨S288x512x1024, .f32⟩
  | .hbm, ⟨74, _⟩ => ⟨S288x512x1024, .f32⟩
  | .hbm, ⟨75, _⟩ => ⟨S_, .f32⟩
  | .hbm, ⟨76, _⟩ => ⟨S288x512x1024, .f32⟩
  | .hbm, ⟨77, _⟩ => ⟨S288x512x1024, .f32⟩
  | .hbm, ⟨78, _⟩ => ⟨S288x512x1024, .f32⟩
  | .hbm, ⟨79, _⟩ => ⟨S_, .i32⟩
  | .hbm, ⟨80, _⟩ => ⟨S288, .i32⟩
  | .hbm, ⟨81, _⟩ => ⟨S288, .i1⟩
  | .hbm, ⟨82, _⟩ => ⟨S_, .i32⟩
  | .hbm, ⟨83, _⟩ => ⟨S288, .i32⟩
  | .hbm, ⟨84, _⟩ => ⟨S288, .i32⟩
  | .hbm, ⟨85, _⟩ => ⟨S288, .i32⟩
  | .hbm, ⟨86, _⟩ => ⟨S288x1, .i32⟩
  | .hbm, ⟨87, _⟩ => ⟨S288x1024x1024, .f32⟩
  | .hbm, ⟨88, _⟩ => ⟨S288x512x1024, .f32⟩
  | .hbm, ⟨89, _⟩ => ⟨S_, .i32⟩
  | .hbm, ⟨90, _⟩ => ⟨S288, .i32⟩
  | .hbm, ⟨91, _⟩ => ⟨S288, .i1⟩
  | .hbm, ⟨92, _⟩ => ⟨S_, .i32⟩
  | .hbm, ⟨93, _⟩ => ⟨S288, .i32⟩
  | .hbm, ⟨94, _⟩ => ⟨S288, .i32⟩
  | .hbm, ⟨95, _⟩ => ⟨S288, .i32⟩
  | .hbm, ⟨96, _⟩ => ⟨S288x1, .i32⟩
  | .hbm, ⟨97, _⟩ => ⟨S288x1x1024, .f32⟩
  | .hbm, ⟨98, _⟩ => ⟨S288x512x1024, .f32⟩
  | .hbm, ⟨99, _⟩ => ⟨S288x512x1024, .f32⟩
  | .hbm, ⟨100, _⟩ => ⟨S_, .i32⟩
  | .hbm, ⟨101, _⟩ => ⟨S288, .i32⟩
  | .hbm, ⟨102, _⟩ => ⟨S288, .i1⟩
  | .hbm, ⟨103, _⟩ => ⟨S288x1x1, .i1⟩
  | .hbm, ⟨104, _⟩ => ⟨S_, .f32⟩
  | .hbm, ⟨105, _⟩ => ⟨S_, .f32⟩
  | .hbm, ⟨106, _⟩ => ⟨S288x512x1024, .i1⟩
  | .hbm, ⟨107, _⟩ => ⟨S288x512x1024, .f32⟩
  | .hbm, ⟨108, _⟩ => ⟨S288x512x1024, .f32⟩
  | .hbm, ⟨109, _⟩ => ⟨S147456x1024, .f32⟩
  | .hbm, ⟨110, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_c_13 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_c_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_16 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_17 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩

abbrev nD : Nat := 1
abbrev τ : Topo := Topo.v7x

variable {F : FTy → Type} [FloatOps F]
-- ==== Kernel3.lean ====
abbrev S16384x512 : Shape := ⟨2, ![16384, 512]⟩
abbrev S32768x8 : Shape := ⟨2, ![32768, 8]⟩
abbrev S32768x1024 : Shape := ⟨2, ![32768, 1024]⟩
abbrev S1024 : Shape := ⟨1, ![1024]⟩
abbrev S1x1024 : Shape := ⟨2, ![1, 1024]⟩
abbrev S512x512 : Shape := ⟨2, ![512, 512]⟩
abbrev S512x8 : Shape := ⟨2, ![512, 8]⟩
abbrev S512x1024 : Shape := ⟨2, ![512, 1024]⟩
abbrev S512x1 : Shape := ⟨2, ![512, 1]⟩
abbrev S512 : Shape := ⟨1, ![512]⟩

abbrev nBuf : Space → Nat
  | .hbm => 7
  | .vmem => 15
  | .smem => 0
  | _ => 0

abbrev bufTy : (tb : Table) → Fin (tcTables nBuf tb) → BufTy
  | .hbm, ⟨0, _⟩ => ⟨S16384x512, .i32⟩
  | .hbm, ⟨1, _⟩ => ⟨S32768x8, .f32⟩
  | .hbm, ⟨2, _⟩ => ⟨S32768x1024, .f32⟩
  | .hbm, ⟨3, _⟩ => ⟨S1024, .f32⟩
  | .hbm, ⟨4, _⟩ => ⟨S32768x1024, .f32⟩
  | .hbm, ⟨5, _⟩ => ⟨S1x1024, .f32⟩
  | .hbm, ⟨6, _⟩ => ⟨S32768x1024, .f32⟩
  | .local _ .vmem, ⟨0, _⟩ => ⟨S512x512, .i32⟩
  | .local _ .vmem, ⟨1, _⟩ => ⟨S512x512, .i32⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .vmem, ⟨7, _⟩ => ⟨S512x512, .i32⟩
  | .local _ .vmem, ⟨8, _⟩ => ⟨S512x8, .f32⟩
  | .local _ .vmem, ⟨9, _⟩ => ⟨S512x8, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S16384x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x512 : Shape := ⟨2, ![16384, 512]⟩
abbrev S32768x8 : Shape := ⟨2, ![32768, 8]⟩
abbrev S32768x1024 : Shape := ⟨2, ![32768, 1024]⟩
abbrev S1024 : Shape := ⟨1, ![1024]⟩
abbrev S_ : Shape := ⟨0, ![]⟩
abbrev S16384x1024 : Shape := ⟨2, ![16384, 1024]⟩
abbrev S4x4096x1024 : Shape := ⟨3, ![4, 4096, 1024]⟩
abbrev S4096x4 : Shape := ⟨2, ![4096, 4]⟩
abbrev S4x4096 : Shape := ⟨2, ![4, 4096]⟩
abbrev S4x4096x1 : Shape := ⟨3, ![4, 4096, 1]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩
abbrev S28672x1024 : Shape := ⟨2, ![28672, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x512, .i32⟩
  | .hbm, ⟨1, _⟩ => ⟨S32768x8, .f32⟩
  | .hbm, ⟨2, _⟩ => ⟨S32768x1024, .f32⟩
  | .hbm, ⟨3, _⟩ => ⟨S1024, .f32⟩
  | .hbm, ⟨4, _⟩ => ⟨S32768x1024, .f32⟩
  | .hbm, ⟨5, _⟩ => ⟨S_, .i32⟩
  | .hbm, ⟨6, _⟩ => ⟨S16384x512, .i32⟩
  | .hbm, ⟨7, _⟩ => ⟨S16384x512, .i32⟩
  | .hbm, ⟨8, _⟩ => ⟨S16384x512, .f32⟩
  | .hbm, ⟨9, _⟩ => ⟨S_, .i32⟩
  | .hbm, ⟨10, _⟩ => ⟨S16384x512, .i32⟩
  | .hbm, ⟨11, _⟩ => ⟨S16384x512, .i32⟩
  | .hbm, ⟨12, _⟩ => ⟨S16384x512, .f32⟩
  | .hbm, ⟨13, _⟩ => ⟨S16384x1024, .f32⟩
  | .hbm, ⟨14, _⟩ => ⟨S4x4096x1024, .f32⟩
  | .hbm, ⟨15, _⟩ => ⟨S4096x4, .f32⟩
  | .hbm, ⟨16, _⟩ => ⟨S4x4096, .f32⟩
  | .hbm, ⟨17, _⟩ => ⟨S4x4096x1, .f32⟩
  | .hbm, ⟨18, _⟩ => ⟨S4096x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S28672x1024, .f32⟩
  | .hbm, ⟨41, _⟩ => ⟨S32768x1024, .f32⟩
  | _, _ => ⟨S16384x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Softmax.lean ====
module

public import Idealize.ShloMosaic.PureOps.Ideal
public import Idealize.ShloMosaic.PureOps.Ideal.Laws
public import Idealize.ShloMosaic.Lib.IdealHost

/-!
# The algebra of the softmax

Facts about the extended reals and the reals alone.  Real numbers stay real under sums, products and maxima; a
weighted mean whose weights are powers does not change when every exponent is shifted by the same number, whether
the shift is a bound or the maximum; and a power of two of a score divided by `log 2` is the exponential of the score.
-/

@[expose] public section

noncomputable section

namespace Cert.Att

open Idealize.ShloMosaic

/-- A finite sum of reals, as an extended real. -/
theorem coe_sum {ι : Type*} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- The largest of finitely many is one of them. -/
theorem fold_max_mem {ι : Type*} [Fintype ι] [Nonempty ι] (f : ι → EReal) :
    ∃ k, Finset.univ.fold max ⊥ f = f k := by
  classical
  have h : ∀ s : Finset ι, s.Nonempty → ∃ k, s.fold max ⊥ f = f k := by
    intro s hs
    induction hs using Finset.Nonempty.cons_induction with
    | singleton a => exact ⟨a, by simp⟩
    | cons a s ha hs ih =>
      obtain ⟨k, hk⟩ := ih
      rw [Finset.fold_cons, hk]
      rcases le_total (f a) (f k) with h | h
      · exact ⟨k, max_eq_right h⟩
      · exact ⟨a, max_eq_left h⟩
  exact h _ Finset.univ_nonempty

theorem exp2_coe (r : ℝ) : Ideal.exp2 (r : EReal) = ((Real.rpow 2 r : ℝ) : EReal) := rfl

theorem exp_coe (r : ℝ) : Ideal.exp (r : EReal) = ((Real.exp r : ℝ) : EReal) := rfl

theorem exp2_bot : Ideal.exp2 ⊥ = 0 := rfl

theorem sqrt_coe {r : ℝ} (h : 0 ≤ r) : Ideal.sqrt (r : EReal) = ((Real.sqrt r : ℝ) : EReal) := by
  show (if r < 0 then ⊥ else ((Real.sqrt r : ℝ) : EReal)) = _
  rw [if_neg (not_lt.mpr h)]

theorem log_coe {r : ℝ} (h : 0 < r) : Ideal.log (r : EReal) = ((Real.log r : ℝ) : EReal) := by
  show (if r ≤ 0 then ⊥ else ((Real.log r : ℝ) : EReal)) = _
  rw [if_neg (not_le.mpr h)]

theorem div_coe (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

theorem half_word : Ideal.ofBits .f32 0x3E000000#32 = ((1 / 8 : ℝ) : EReal) := by
  simp [Ideal.ofBits, Ideal.ieee]
  rw [← EReal.coe_mul]
  norm_num

theorem two_word : Ideal.ofBits .f32 0x40000000#32 = ((2 : ℝ) : EReal) := by
  simp [Ideal.ofBits, Ideal.ieee]
  rw [← EReal.coe_mul]
  norm_num

theorem bottom_word : Ideal.ofBits .f32 0xFF800000#32 = ⊥ := by
  simp [Ideal.ofBits, Ideal.ieee]

theorem margin_word : ∃ r : ℝ, Ideal.ofBits .f32 0x3F8147AE#32 = (r : EReal) := by
  simp [Ideal.ofBits, Ideal.ieee]
  exact ⟨_, (EReal.coe_mul _ _).symm⟩

/-- A power of two splits off a shift. -/
theorem two_shift (a m : ℝ) : Real.rpow 2 (a - m) = Real.rpow 2 (-m) * Real.rpow 2 a := by
  show (2 : ℝ) ^ (a - m) = 2 ^ (-m) * 2 ^ a
  rw [← Real.rpow_add two_pos]
  congr 1
  ring

/-- Moving a power of two from one shift to another. -/
theorem two_move (a m m' : ℝ) : Real.rpow 2 (m - m') * Real.rpow 2 (a - m) = Real.rpow 2 (a - m') := by
  show (2 : ℝ) ^ (m - m') * 2 ^ (a - m) = 2 ^ (a - m')
  rw [← Real.rpow_add two_pos]
  congr 1
  ring

theorem two_pos' (a : ℝ) : 0 < Real.rpow 2 a := Real.rpow_pos_of_pos two_pos a

/-- The power of two of a score over `log 2` is its exponential. -/
theorem two_log (a b : ℝ) (h : b * Real.log 2 = a) : Real.rpow 2 b = Real.exp a := by
  show (2 : ℝ) ^ b = _
  rw [Real.rpow_def_of_pos two_pos, ← h, mul_comm]

/-- The weighted mean of `v` under the weights `e ^ s`. -/
def mean {ι : Type*} [Fintype ι] (s v : ι → ℝ) : ℝ := (∑ i, v i * Real.exp (s i)) / ∑ i, Real.exp (s i)

/-- The weighted mean with every exponent of two shifted by `m`. -/
theorem mean_two {ι : Type*} [Fintype ι] (s v b : ι → ℝ) (m : ℝ) (h : ∀ i, b i * Real.log 2 = s i) :
    (∑ i, v i * Real.rpow 2 (b i - m)) / (∑ i, Real.rpow 2 (b i - m)) = mean s v := by
  have e : ∀ i, Real.rpow 2 (b i - m) = Real.rpow 2 (-m) * Real.exp (s i) := fun i => by
    rw [two_shift, two_log _ _ (h i)]
  simp only [e]
  rw [Finset.sum_congr rfl fun i _ => mul_left_comm (v i) (Real.rpow 2 (-m)) (Real.exp (s i)), ← Finset.mul_sum, ← Finset.mul_sum]
  exact mul_div_mul_left _ _ (two_pos' _).ne'

/-- The mean written as the softmax is: each weight divided by the sum of the weights, all shifted by `m`. -/
theorem mean_soft {ι : Type*} [Fintype ι] (s v : ι → ℝ) (m : ℝ) :
    ∑ i, v i * (Real.exp (s i - m) / ∑ j, Real.exp (s j - m)) = mean s v := by
  have e : ∀ i, Real.exp (s i - m) = Real.exp (-m) * Real.exp (s i) := fun i => by rw [← Real.exp_add]; ring_nf
  simp only [e, ← Finset.mul_sum]
  unfold mean
  rw [Finset.sum_div]
  exact Finset.sum_congr rfl fun i _ => by rw [mul_div_mul_left _ _ (Real.exp_pos _).ne', mul_div_assoc]

end Cert.Att
end
-- ==== Proof.RefValue.lean ====
module

public import proofs.«01_k».proof.Proof.Gen.ReferenceIdeal
public import proofs.«01_k».proof.Proof.Gen.ReferenceIdeal.Run
public import proofs.«01_k».proof.Proof.Softmax
public import Idealize.ShloMosaic.Lib.Pointwise

/-!
# What the reference computes

On real inputs the reference's result at a row and a column is the softmax's weighted mean of the values.
-/

@[expose] public section

set_option maxRecDepth 16384

noncomputable section

namespace Cert.AttRef

open Cert.ReferenceIdeal Cert.ReferenceIdeal.Gen
open Idealize.ShloMosaic Cert.Att

/-- The batch, the row in it, and the key head, query head and column of an index of the result. -/
def batch (R : Fin 32768) : Fin 8 := ⟨R.val / 4096, by omega⟩
def row (R : Fin 32768) : Fin 4096 := ⟨R.val % 4096, by omega⟩
def keyHead (C : Fin 512) : Fin 2 := ⟨C.val / 256, by omega⟩
def queryHead (C : Fin 512) : Fin 4 := ⟨C.val / 64 % 4, by omega⟩
def column (C : Fin 512) : Fin 64 := ⟨C.val % 64, by omega⟩

/-- Where column `e` of query head `j` of key head `g` stands among the queries' 512 columns. -/
def qAt (g : Fin 2) (j : Fin 4) (e : Fin 64) : Fin 512 := ⟨g.val * 256 + j.val * 64 + e.val, by omega⟩
/-- Where column `e` of key head `g` stands among the keys' 128 columns. -/
def kAt (g : Fin 2) (e : Fin 64) : Fin 128 := ⟨g.val * 64 + e.val, by omega⟩

/-- The softmax attention over real arrays. -/
def attention (q : Fin 8 → Fin 4096 → Fin 512 → ℝ) (k v : Fin 8 → Fin 4096 → Fin 128 → ℝ) (b : Fin 8) (r : Fin 4096)
    (g : Fin 2) (j : Fin 4) (d : Fin 64) : ℝ :=
  mean (fun s => ∑ e : Fin 64, k b s (kAt g e) * (q b r (qAt g j e) * (1 / 8))) (fun s => v b s (kAt g d))

/-- The scores. -/
def scores (q : FVec Ideal S8x4096x512 .f32) (k : FVec Ideal S8x4096x128 .f32) : FVec Ideal S8x2x4x4096x4096 .f32 :=
  transpose S8x2x4x4096x4096 [0, 1, 4, 3, 2]
    (Host.dotGeneral dot_S8x4096x2x64_S8x4096x2x4x64_S8x2x4096x4096x4_3_4_1_13_02_02 none
      (shapeCast _ k shapeCasts_S8x4096x128_S8x4096x2x64)
      (mulf (shapeCast _ q shapeCasts_S8x4096x512_S8x4096x2x4x64)
        (broadcastInDim S8x4096x2x4x64 ![] bcast_S_S8x4096x2x4x64 (constant S_ .f32 0x3E000000#32))))
    transposes_S8x2x4096x4096x4_S8x2x4x4096x4096_0_1_4_3_2

/-- The largest score of a row, from negative infinity. -/
def rowMax (S : FVec Ideal S8x2x4x4096x4096 .f32) : FVec Ideal S8x2x4x4096 .f32 :=
  Host.reduce FloatOps.maximumf S (constant S_ .f32 0xFF800000#32) reducesTo_S8x2x4x4096x4096_S8x2x4x4096_d4 h_S_

/-- The largest score of a row. -/
def largest (S : FVec Ideal S8x2x4x4096x4096 .f32) : FVec Ideal S8x2x4x4096 .f32 :=
  maximumf (broadcastInDim S8x2x4x4096 ![] bcast_S_S8x2x4x4096 (constant S_ .f32 0xFF800000#32)) (rowMax S)

/-- A number for each row, spread over the row. -/
def spread (x : FVec Ideal S8x2x4x4096 .f32) : FVec Ideal S8x2x4x4096x4096 .f32 :=
  broadcastInDim S8x2x4x4096x4096 ![0, 1, 2, 3, 4] bcast_S8x2x4x4096x1_S8x2x4x4096x4096_0_1_2_3_4
    (broadcastInDim S8x2x4x4096x1 ![0, 1, 2, 3] bcast_S8x2x4x4096_S8x2x4x4096x1_0_1_2_3 x)

/-- The weights before they are divided by their sum. -/
def weights (S : FVec Ideal S8x2x4x4096x4096 .f32) : FVec Ideal S8x2x4x4096x4096 .f32 :=
  Host.exp (subf S (spread (largest S)))

/-- The sums of the weights. -/
def total (W : FVec Ideal S8x2x4x4096x4096 .f32) : FVec Ideal S8x2x4x4096 .f32 :=
  Host.reduceAdd W (constant S_ .f32 0x00000000#32) reducesTo_S8x2x4x4096x4096_S8x2x4x4096_d4 h_S_

/-- The result. -/
def result (q : FVec Ideal S8x4096x512 .f32) (k v : FVec Ideal S8x4096x128 .f32) : FVec Ideal S32768x512 .bf16 :=
  truncf .bf16 (shapeCast _ (transpose S8x4096x2x4x64 [0, 4, 1, 3, 2]
    (Host.dotGeneral dot_S8x4096x2x64_S8x2x4x4096x4096_S8x2x64x4x4096_1_4_3_23_02_01 none
      (shapeCast _ v shapeCasts_S8x4096x128_S8x4096x2x64)
      (Host.divf (weights (scores q k)) (spread (total (weights (scores q k))))))
    transposes_S8x2x64x4x4096_S8x4096x2x4x64_0_4_1_3_2) shapeCasts_S8x4096x2x4x64_S32768x512) bitsLt_bf16_f32

theorem run_result (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v21)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

theorem scores_at (q : FVec Ideal S8x4096x512 .f32) (k : FVec Ideal S8x4096x128 .f32) (b : Fin 8) (g : Fin 2) (j : Fin 4)
    (r s : Fin 4096) :
    scores q k (ix5 b g j r s) = ∑ e : Fin 64, k (ix3 b s (kAt g e)) * (q (ix3 b r (qAt g j e)) * Ideal.ofBits .f32 0x3E000000#32) := by
  pointwise [scores, kAt, qAt]

theorem spread_at (x : FVec Ideal S8x2x4x4096 .f32) (b : Fin 8) (g : Fin 2) (j : Fin 4) (r s : Fin 4096) :
    spread x (ix5 b g j r s) = x (ix4 b g j r) := by
  unfold spread
  rw [broadcastInDim_apply _ _ _ _ (ix5 b g j r 0) (fun a => by
      match a with | ⟨0, _⟩ => rfl | ⟨1, _⟩ => rfl | ⟨2, _⟩ => rfl | ⟨3, _⟩ => rfl | ⟨4, _⟩ => rfl),
    broadcastInDim_apply _ _ _ _ (ix4 b g j r) (fun a => by
      match a with | ⟨0, _⟩ => rfl | ⟨1, _⟩ => rfl | ⟨2, _⟩ => rfl | ⟨3, _⟩ => rfl)]

/-- A fold of the maximum over a set that is not empty is one of its values. -/
theorem fold_mem {ι : Type} (f : ι → EReal) (s : Finset ι) (hs : s.Nonempty) : ∃ k, s.fold max ⊥ f = f k := by
  induction hs using Finset.Nonempty.cons_induction with
  | singleton a => exact ⟨a, by simp⟩
  | cons a s ha hs ih =>
    obtain ⟨k, hk⟩ := ih
    rw [Finset.fold_cons, hk]
    rcases le_total (f a) (f k) with h | h
    · exact ⟨k, max_eq_right h⟩
    · exact ⟨a, max_eq_left h⟩

/-- A reduction by the maximum from `⊥` whose operand is real is real, where some index reduces into the result's. -/
theorem reduce_max_real {s t u : Shape} {axes : List (Fin s.rank)} (x : s.Idx → EReal) (init : u.Idx → EReal) (h : s.ReducesTo axes t)
    (hu : 0 < u.numel) (j : t.Idx) (hi : init (Shape.Idx.first hu) = ⊥) (i : s.Idx) (hij : h.drop i = j)
    (hx : ∀ i, ∃ r : ℝ, x i = (r : EReal)) : ∃ r : ℝ, Host.reduce (FloatOps.maximumf (F := Ideal) (φ := .f32)) x init h hu j = (r : EReal) := by
  change ∃ r : ℝ, Host.reduce (max : EReal → EReal → EReal) x init h hu j = (r : EReal)
  rw [Host.reduce_eq_fold, hi]
  obtain ⟨k, hk⟩ := fold_mem x (Finset.univ.filter fun i => h.drop i = j) ⟨i, Finset.mem_filter.2 ⟨Finset.mem_univ _, hij⟩⟩
  obtain ⟨r, hr⟩ := hx k
  exact ⟨r, hk.trans hr⟩

theorem drop_ix5 {n0 n1 n2 n3 n4 : ℕ} (h : (⟨5, ![n0, n1, n2, n3, n4]⟩ : Shape).ReducesTo [4] ⟨4, ![n0, n1, n2, n3]⟩) (b : Fin n0) (g : Fin n1) (j : Fin n2)
    (r : Fin n3) (s : Fin n4) : h.drop (ix5 b g j r s) = ix4 b g j r := by
  funext a
  match a with | ⟨0, _⟩ => rfl | ⟨1, _⟩ => rfl | ⟨2, _⟩ => rfl | ⟨3, _⟩ => rfl

theorem floor_at (T : FVec Ideal S8x2x4x4096 .f32) (b : Fin 8) (g : Fin 2) (j : Fin 4) (r : Fin 4096) :
    maximumf (broadcastInDim S8x2x4x4096 ![] bcast_S_S8x2x4x4096 (constant S_ .f32 0xFF800000#32)) T (ix4 b g j r) = max (Ideal.ofBits .f32 0xFF800000#32) (T (ix4 b g j r)) := by
  rfl
theorem largest_real (S : FVec Ideal S8x2x4x4096x4096 .f32) (hS : ∀ b g j r s, ∃ x : ℝ, S (ix5 b g j r s) = (x : EReal)) (b : Fin 8) (g : Fin 2) (j : Fin 4) (r : Fin 4096) :
    ∃ x : ℝ, largest S (ix4 b g j r) = (x : EReal) := by
  have h : ∃ x : ℝ, rowMax S (ix4 b g j r) = (x : EReal) := by
    unfold rowMax
    exact reduce_max_real S _ _ _ _ bottom_word (ix5 b g j r 0) (drop_ix5 _ b g j r 0) (fun i => by rw [eq_ix5 i]; exact hS _ _ _ _ _)
  obtain ⟨x, hx⟩ := h
  exact ⟨x, (floor_at _ b g j r).trans (by rw [bottom_word, hx, max_eq_right bot_le])⟩

theorem total_at (W : FVec Ideal S8x2x4x4096x4096 .f32) (b : Fin 8) (g : Fin 2) (j : Fin 4) (r : Fin 4096) :
    total W (ix4 b g j r) = ∑ s : Fin 4096, W (ix5 b g j r s) := by
  pointwise [total]

theorem weights_at (S : FVec Ideal S8x2x4x4096x4096 .f32) (b : Fin 8) (g : Fin 2) (j : Fin 4) (r s : Fin 4096) :
    weights S (ix5 b g j r s) = Ideal.exp (S (ix5 b g j r s) - largest S (ix4 b g j r)) := by
  rw [← spread_at (largest S) b g j r s]
  rfl

theorem result_at (q : FVec Ideal S8x4096x512 .f32) (k v : FVec Ideal S8x4096x128 .f32) (R : Fin 32768) (C : Fin 512) :
    result q k v (ix2 R C) = ∑ s : Fin 4096, v (ix3 (batch R) s (kAt (keyHead C) (column C)))
      * Ideal.div (weights (scores q k) (ix5 (batch R) (keyHead C) (queryHead C) (row R) s))
        (total (weights (scores q k)) (ix4 (batch R) (keyHead C) (queryHead C) (row R))) := by
  unfold result
  generalize weights (scores q k) = W
  generalize hX : spread (total W) = X
  have hT (b : Fin 8) (g : Fin 2) (j : Fin 4) (r s : Fin 4096) : X (ix5 b g j r s) = total W (ix4 b g j r) := by
    rw [← hX, spread_at]
  refine Eq.trans ?_ (Finset.sum_congr rfl fun s _ => congrArg (_ * Ideal.div _ ·) (hT _ _ _ _ s))
  clear hT hX
  pointwise [ kAt, keyHead, column, batch, row, queryHead]

/-- On real inputs the reference's result is the softmax attention. -/
theorem result_real (q : FVec Ideal S8x4096x512 .f32) (k v : FVec Ideal S8x4096x128 .f32)
    (qr : Fin 8 → Fin 4096 → Fin 512 → ℝ) (kr vr : Fin 8 → Fin 4096 → Fin 128 → ℝ)
    (hq : ∀ b r e, q (ix3 b r e) = ((qr b r e : ℝ) : EReal)) (hk : ∀ b r e, k (ix3 b r e) = ((kr b r e : ℝ) : EReal))
    (hv : ∀ b r e, v (ix3 b r e) = ((vr b r e : ℝ) : EReal)) (R : Fin 32768) (C : Fin 512) :
    result q k v (ix2 R C)
      = ((attention qr kr vr (batch R) (row R) (keyHead C) (queryHead C) (column C) : ℝ) : EReal) := by
  rw [result_at]
  generalize batch R = b
  generalize row R = r
  generalize keyHead C = g
  generalize queryHead C = j
  generalize column C = d
  have hS (b g j r) (s : Fin 4096) : scores q k (ix5 b g j r s) = ((∑ e : Fin 64, kr b s (kAt g e) * (qr b r (qAt g j e) * (1 / 8)) : ℝ) : EReal) := by
    rw [scores_at, coe_sum]
    exact Finset.sum_congr rfl fun e _ => by rw [hk, hq, half_word, EReal.coe_mul, EReal.coe_mul]
  have hR (b g j r s) : ∃ x : ℝ, scores q k (ix5 b g j r s) = (x : EReal) := ⟨_, hS b g j r s⟩
  replace hS := hS b g j r
  unfold attention
  generalize hSr : (fun s => ∑ e : Fin 64, kr b s (kAt g e) * (qr b r (qAt g j e) * (1 / 8))) = S
  replace hS (s : Fin 4096) : scores q k (ix5 b g j r s) = ((S s : ℝ) : EReal) := by rw [hS s, ← hSr]
  obtain ⟨M, hM⟩ := largest_real (scores q k) hR b g j r
  have hW (s : Fin 4096) : weights (scores q k) (ix5 b g j r s) = ((Real.exp (S s - M) : ℝ) : EReal) := by
    rw [weights_at, hS s, hM, ← EReal.coe_sub, exp_coe]
  have hT : total (weights (scores q k)) (ix4 b g j r) = ((∑ s, Real.exp (S s - M) : ℝ) : EReal) := by
    rw [total_at, coe_sum]
    exact Finset.sum_congr rfl fun s _ => hW s
  rw [← mean_soft S _ M, coe_sum]
  refine Finset.sum_congr rfl fun s _ => ?_
  rw [hW, hT, hv, div_coe _ (Finset.sum_pos (fun s _ => Real.exp_pos _) Finset.univ_nonempty).ne', EReal.coe_mul]

end Cert.AttRef
end
-- ==== Proof.Tile.lean ====
module

public import proofs.«01_k».proof.Proof.Gen.KernelIdeal.Skeleton
public import Idealize.ShloMosaic.Lib.Pipeline.FrameBody

/-!
# What one grid point of the attention computes

A grid point holds 256 rows of queries (eight heads of 64 columns), the 4096 keys and values of its batch (two
key heads of 64 columns), and the two buffers that the first point of a batch prepares: the transposed values and
a bound on the keys' norms.  The functions here say, over any reading of the floats, what the point stores: the
four query heads of one key head stacked in 1024 rows, the scores against a chunk of 1024 keys, the weighted
sum of the values with a row of ones (whose row of the result is the sum of the weights), once shifted by the
norm bound and once by the running maximum, and the quotient of the two.
-/

@[expose] public section

noncomputable section

namespace Cert.Att

open Cert.KernelIdeal Cert.KernelIdeal.Gen
open Idealize.ShloMosaic

variable {F : FTy → Type} [FloatOps F]

theorem inb_q (g : Fin 2) (j : Fin 4) : ∀ a, (![0, 256 * g.val + 64 * j.val] : Fin 2 → ℕ) a + S256x64.size a ≤ S256x512.size a := by
  decide +revert

theorem inb_k (g : Fin 2) (c : Fin 4) : ∀ a, (![1024 * c.val, 64 * g.val] : Fin 2 → ℕ) a + S1024x64.size a ≤ S4096x128.size a := by
  decide +revert

theorem inb_v (g : Fin 2) (c : Fin 4) : ∀ a, (![64 * g.val, 1024 * c.val] : Fin 2 → ℕ) a + S64x1024.size a ≤ S128x4096.size a := by
  decide +revert

theorem inb_n (g : Fin 2) : ∀ a, (![g.val, 0, 0] : Fin 3 → ℕ) a + S1x8x128.size a ≤ S2x8x128.size a := by
  decide +revert

theorem inb_s (g : Fin 2) (j : Fin 4) : ∀ a, (![256 * g.val + 64 * j.val, 0] : Fin 2 → ℕ) a + S64x256.size a ≤ S512x256.size a := by
  decide +revert

theorem slices_head (j : Fin 4) : S64x1024.Slices ![0, 256 * j.val] S64x256 := by
  decide +revert

/-- Query head `j` of key head `g`. -/
def qCols (x0 : Vec F S256x512 .bf16) (g : Fin 2) (j : Fin 4) : Vec F S256x64 .bf16 :=
  View.ld x0 (Rect.unit (s := S256x512) ![0, 256 * g.val + 64 * j.val] S256x64.size (inb_q g j))

/-- Chunk `c` of the keys of key head `g`. -/
def kChunk (x1 : Vec F S4096x128 .bf16) (g : Fin 2) (c : Fin 4) : Vec F S1024x64 .bf16 :=
  View.ld x1 (Rect.unit (s := S4096x128) ![1024 * c.val, 64 * g.val] S1024x64.size (inb_k g c))

/-- Chunk `c` of the transposed values of key head `g`. -/
def vChunk (vt : Vec F S128x4096 .bf16) (g : Fin 2) (c : Fin 4) : Vec F S64x1024 .bf16 :=
  View.ld vt (Rect.unit (s := S128x4096) ![64 * g.val, 1024 * c.val] S64x1024.size (inb_v g c))

/-- The norm bound of key head `g`, as the buffer holds it. -/
def kNorm (km : Vec F S2x8x128 .f32) (g : Fin 2) : Vec F S1x8x128 .f32 :=
  View.ld km (Rect.unit (s := S2x8x128) ![g.val, 0, 0] S1x8x128.size (inb_n g))

/-- The four query heads of key head `g`, stacked. -/
def qHeads (x0 : Vec F S256x512 .bf16) (g : Fin 2) : FVec F S1024x64 .bf16 :=
  concatenate S1024x64 0
    [⟨S256x64, shapeCast S256x64 (qCols x0 g 0) shapeCasts_S256x64_S256x64⟩,
     ⟨S256x64, shapeCast S256x64 (qCols x0 g 1) shapeCasts_S256x64_S256x64⟩,
     ⟨S256x64, shapeCast S256x64 (qCols x0 g 2) shapeCasts_S256x64_S256x64⟩,
     ⟨S256x64, shapeCast S256x64 (qCols x0 g 3) shapeCasts_S256x64_S256x64⟩]
    concatenates_S256x64_S256x64_S256x64_S256x64_S1024x64_d0

/-- The scores of a chunk of keys: keys down, stacked queries across. -/
def scores (q : FVec F S1024x64 .bf16) (k : Vec F S1024x64 .bf16) : FVec F S1024x1024 .f32 :=
  matmul dot_S1024x64_S1024x64_S1024x1024_1_1_0_0_n_n none (shapeCast S1024x64 k shapeCasts_S1024x64_S1024x64) q
    (constant S1024x1024 .f32 0x00000000#32)

/-- A chunk of the transposed values over sixteen rows of ones. -/
def withOnes (v : Vec F S64x1024 .bf16) : FVec F S80x1024 .bf16 :=
  concatenate S80x1024 0 [⟨S64x1024, v⟩, ⟨S16x1024, broadcast S16x1024 (Scalar.ofBits .bf16 0x3F80#16)⟩]
    concatenates_S64x1024_S16x1024_S80x1024_d0

/-- The weighted sum of a chunk of values, the scores shifted by `m`. -/
def weighted (m : FVec F S1x1024 .f32) (q : FVec F S1024x64 .bf16) (k : Vec F S1024x64 .bf16) (v : Vec F S64x1024 .bf16) :
    FVec F S80x1024 .f32 :=
  matmul dot_S80x1024_S1024x1024_S80x1024_1_0_0_1_n_n none (withOnes v)
    (truncf .bf16 (exp2 (subf (scores q k) (broadcastTo S1024x1024 m broadcasts_S1x1024_S1024x1024))) bitsLt_bf16_f32)
    (constant S80x1024 .f32 0x00000000#32)

/-- Zeros to start the weighted sums from. -/
def start : FVec F S80x1024 .f32 := broadcast S80x1024 (Scalar.ofBits .f32 0x00000000#32)

/-- The shift by the norms: the query's norm times the keys' norm bound, and one part in a hundred more. -/
def normShift (q : FVec F S1024x64 .bf16) (km : Vec F S1x8x128 .f32) : FVec F S1x1024 .f32 :=
  mulf
    (mulf
      (sqrt (extractStridedSlice S1x1024 ![0, 0]
        (matmul dot_S8x64_S1024x64_S8x1024_1_1_0_0_n_n none (broadcast S8x64 (Scalar.ofBits .bf16 0x3F80#16))
          (truncf .bf16 (mulf (extf .f32 q bitsLt_bf16_f32) (extf .f32 q bitsLt_bf16_f32)) bitsLt_bf16_f32)
          (constant S8x1024 .f32 0x00000000#32)) slices_S8x1024_o0_0_S1x1024))
      (broadcastTo S1x1024 (extractStridedSlice S1x1 ![0, 0] (shapeCast S8x128 km shapeCasts_S1x8x128_S8x128)
        slices_S8x128_o0_0_S1x1) broadcasts_S1x1_S1x1024))
    (broadcast S1x1024 (Scalar.ofBits .f32 0x3F8147AE#32))

/-- The weighted sums over the four chunks, all shifted by `m`. -/
def sumShifted (m : FVec F S1x1024 .f32) (q : FVec F S1024x64 .bf16) (k : Fin 4 → Vec F S1024x64 .bf16)
    (v : Fin 4 → Vec F S64x1024 .bf16) : FVec F S80x1024 .f32 :=
  addf (addf (addf (addf start (weighted m q (k 0) (v 0))) (weighted m q (k 1) (v 1))) (weighted m q (k 2) (v 2)))
    (weighted m q (k 3) (v 3))

/-- The running maximum after one more chunk of scores. -/
def runMax (m : FVec F S1x1024 .f32) (q : FVec F S1024x64 .bf16) (k : Vec F S1024x64 .bf16) : FVec F S1x1024 .f32 :=
  maximumf m
    (shapeCast S1x1024
      (multiReduction .maximumf [0] S1024
        (multiReduction .maximumf [0] S8x1024
          (shapeCast S8x8x1024
            (multiReduction .maximumf [0] S64x1024 (shapeCast S16x64x1024 (scores q k) shapeCasts_S1024x1024_S16x64x1024)
              0xFF800000#32 reduces_S16x64x1024_S64x1024 (.inl rfl) rfl) shapeCasts_S64x1024_S8x8x1024)
          0xFF800000#32 reduces_S8x8x1024_S8x1024 (.inl rfl) rfl)
        0xFF800000#32 reduces_S8x1024_S1024 (.inl rfl) rfl) shapeCasts_S1024_S1x1024)

/-- The weighted sums after one more chunk: what there was, moved from shift `m` to shift `m'`, and the chunk's own. -/
def sumMoved (m m' : FVec F S1x1024 .f32) (q : FVec F S1024x64 .bf16) (k : Vec F S1024x64 .bf16) (v : Vec F S64x1024 .bf16)
    (o : FVec F S80x1024 .f32) : FVec F S80x1024 .f32 :=
  addf (mulf (broadcastTo S80x1024 (exp2 (subf m m')) broadcasts_S1x1024_S80x1024) o) (weighted m' q k v)

/-- The running maximum before any chunk. -/
def noMax : FVec F S1x1024 .f32 := broadcast S1x1024 (Scalar.ofBits .f32 0xFF800000#32)

/-- The running maximum after the first `n` chunks. -/
def maxAfter (q : FVec F S1024x64 .bf16) (k : ℕ → Vec F S1024x64 .bf16) : ℕ → FVec F S1x1024 .f32
  | 0 => noMax
  | n + 1 => runMax (maxAfter q k n) q (k n)

/-- The weighted sums after the first `n` chunks, shifted by the running maximum. -/
def sumAfter (q : FVec F S1024x64 .bf16) (k : ℕ → Vec F S1024x64 .bf16) (v : ℕ → Vec F S64x1024 .bf16) :
    ℕ → FVec F S80x1024 .f32
  | 0 => start
  | n + 1 => sumMoved (maxAfter q k n) (maxAfter q k (n + 1)) q (k n) (v n) (sumAfter q k v n)

/-- The weighted sums of the values over the sums of the weights. -/
def quotient (o : FVec F S80x1024 .f32) : FVec F S64x1024 .f32 :=
  divf (extractStridedSlice S64x1024 ![0, 0] o slices_S80x1024_o0_0_S64x1024)
    (broadcastTo S64x1024 (extractStridedSlice S1x1024 ![64, 0] o slices_S80x1024_o64_0_S1x1024)
      broadcasts_S1x1024_S64x1024)

/-- The columns of query head `j` of a quotient. -/
def headCols (o : FVec F S64x1024 .f32) (j : Fin 4) : FVec F S64x256 .f32 :=
  shapeCast S64x256 (extractStridedSlice S64x256 ![0, 256 * j.val] o (slices_head j)) shapeCasts_S64x256_S64x256

/-- The smallest sum of weights. -/
def smallest (o : FVec F S80x1024 .f32) : F .f32 :=
  extractAt ![0, 0, 0]
    (shapeCast S1x1x1
      (multiReduction .minimumf [1, 2] S1
        (shapeCast S1x1x1024 (extractStridedSlice S1x1024 ![64, 0] o slices_S80x1024_o64_0_S1x1024)
          shapeCasts_S1x1024_S1x1x1024)
        0x7F800000#32 reduces_S1x1x1024_S1 (.inl rfl) rfl) shapeCasts_S1_S1x1x1) inpos_S1x1x1_p0_0_0

/-- The piece of the scratch that holds query head `j` of key head `g`. -/
def headPiece (o : Fin 2 → FVec F S64x1024 .f32) (g : Fin 2) (j : Fin 4) : View.Piece (Elt F) S512x256 .f32 :=
  ⟨Rect.unit (s := S512x256) ![256 * g.val + 64 * j.val, 0] S64x256.size (inb_s g j), headCols (o g) j⟩

/-- The eight pieces, the last stored first. -/
def headPieces (o : Fin 2 → FVec F S64x1024 .f32) : List (View.Piece (Elt F) S512x256 .f32) :=
  [headPiece o 1 3, headPiece o 1 2, headPiece o 1 1, headPiece o 1 0,
   headPiece o 0 3, headPiece o 0 2, headPiece o 0 1, headPiece o 0 0]

/-- The sums shifted by the norms, of key head `g`. -/
def sumNorm (x0 : Vec F S256x512 .bf16) (x1 : Vec F S4096x128 .bf16) (vt : Vec F S128x4096 .bf16)
    (km : Vec F S2x8x128 .f32) (g : Fin 2) : FVec F S80x1024 .f32 :=
  sumShifted (normShift (qHeads x0 g) (kNorm km g)) (qHeads x0 g) (kChunk x1 g) (vChunk vt g)

/-- Chunk `n`, counted from zero, the count taken modulo four. -/
def nth {α : Type} (f : Fin 4 → α) (n : ℕ) : α := f (Fin.ofNat 4 n)

/-- The sums shifted by the running maximum, of key head `g`. -/
def sumMax (x0 : Vec F S256x512 .bf16) (x1 : Vec F S4096x128 .bf16) (vt : Vec F S128x4096 .bf16) (g : Fin 2) :
    FVec F S80x1024 .f32 :=
  sumAfter (qHeads x0 g) (nth (kChunk x1 g)) (nth (vChunk vt g)) 4

/-- Whether a smallest sum of weights `l` is too small for the shift by the norms. -/
abbrev Shaky (l : F .f32) : Prop :=
  Scalar.cmpi .ne (Scalar.extui (Scalar.xori (Scalar.cmpf .oge l (FloatOps.ofBits .f32 562036736#32)) 1#1)) 0#32 = 1#1

/-- The scratch when the point is done. -/
def scratchOf (x0 : Vec F S256x512 .bf16) (x1 : Vec F S4096x128 .bf16) (vt : Vec F S128x4096 .bf16)
    (km : Vec F S2x8x128 .f32) : Vec F S512x256 .f32 :=
  if Shaky (Scalar.minimumf (smallest (sumNorm x0 x1 vt km 0)) (smallest (sumNorm x0 x1 vt km 1))) then
    View.canon (headPieces fun g => quotient (sumMax x0 x1 vt g))
  else View.canon (headPieces fun g => quotient (sumNorm x0 x1 vt km g))

/-- The tile of the output a grid point stores. -/
def tileOf (x0 : Vec F S256x512 .bf16) (x1 : Vec F S4096x128 .bf16) (vt : Vec F S128x4096 .bf16)
    (km : Vec F S2x8x128 .f32) : FVec F S256x512 .bf16 :=
  truncf .bf16 (transpose S256x512 [1, 0] (scratchOf x0 x1 vt km) transposes_S512x256_p1_0_S256x512) bitsLt_bf16_f32

/-- The transposed values the first point of a batch stores. -/
def valuesT (x2 : Vec F S4096x128 .bf16) : Vec F S128x4096 .bf16 :=
  shapeCast S128x4096
    (truncf .bf16 (transpose S128x4096 [1, 0] (extf .f32 (shapeCast S4096x128 x2 shapeCasts_S4096x128_S4096x128)
      bitsLt_bf16_f32) transposes_S4096x128_p1_0_S128x4096) bitsLt_bf16_f32) shapeCasts_S128x4096_S128x4096

/-- The squares of the keys. -/
def squares (x1 : Vec F S4096x128 .bf16) : FVec F S4096x128 .bf16 :=
  truncf .bf16 (mulf (extf .f32 (shapeCast S4096x128 x1 shapeCasts_S4096x128_S4096x128) bitsLt_bf16_f32)
    (extf .f32 (shapeCast S4096x128 x1 shapeCasts_S4096x128_S4096x128) bitsLt_bf16_f32)) bitsLt_bf16_f32

/-- The largest norm of 4096 rows whose squares are `s`, spread over a tile. -/
def largestNorm (s : FVec F S4096x64 .bf16) : FVec F S1x8x128 .f32 :=
  shapeCast S1x8x128
    (broadcast S8x128 (Scalar.sqrt (extractAt ![0, 0, 0]
      (shapeCast S1x1x1
        (multiReduction .maximumf [1, 2] S1
          (shapeCast S1x8x4096
            (matmul dot_S8x64_S4096x64_S8x4096_1_1_0_0_n_n none (broadcast S8x64 (Scalar.ofBits .bf16 0x3F80#16)) s
              (constant S8x4096 .f32 0x00000000#32)) shapeCasts_S8x4096_S1x8x4096)
          0xFF800000#32 reduces_S1x8x4096_S1 (.inl rfl) rfl) shapeCasts_S1_S1x1x1) inpos_S1x1x1_p0_0_0)))
    shapeCasts_S8x128_S1x8x128

/-- The two pieces of the norm bounds, the last stored first. -/
def normPieces (x1 : Vec F S4096x128 .bf16) : List (View.Piece (Elt F) S2x8x128 .f32) :=
  [⟨Rect.unit (s := S2x8x128) ![1, 0, 0] S1x8x128.size inb_S2x8x128_S1x8x128_1_0_0,
     largestNorm (extractStridedSlice S4096x64 ![0, 64] (squares x1) slices_S4096x128_o0_64_S4096x64)⟩,
   ⟨Rect.unit (s := S2x8x128) ![0, 0, 0] S1x8x128.size inb_S2x8x128_S1x8x128_0_0_0,
     largestNorm (extractStridedSlice S4096x64 ![0, 0] (squares x1) slices_S4096x128_o0_0_S4096x64)⟩]

/-- The norm bounds the first point of a batch stores. -/
def normsOf (x1 : Vec F S4096x128 .bf16) : Vec F S2x8x128 .f32 := View.canon (normPieces x1)

end Cert.Att
end
-- ==== Proof.BodyRest.lean ====
module

public import proofs.«01_k».proof.Proof.Gen.KernelIdeal.Frame
public import proofs.«01_k».proof.Proof.Tile
public import Idealize.ShloMosaic.Lib.Pipeline.Value

/-!
# One run of the attention's body

Two runs of the whole body on whole buffers: at the first point of a batch, which prepares the transposed values and
the norm bounds, and at any other point, which finds them.  Both leave the tile `tileOf` names.
-/

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point is the first of its batch. -/
abbrev first (i : grid0.Coords) : Prop :=
  (Scalar.cmpi .ne (Scalar.extui (Scalar.cmpi .eq (BitVec.ofNat 32 (i 1).val) 0#32)) 0#32) = 1#1

/-- The eight pieces cover the scratch. -/
theorem cover_heads (o : Fin 2 → FVec F S64x1024 .f32) (y : S512x256.Idx) : ∃ p ∈ headPieces o, y ∈ p.1.set :=
  View.cover_of_tiledL (headPieces o) S64x256.size (by sl_kernel_rfl) y

/-- The two pieces cover the norm bounds. -/
theorem cover_norms (x1 : Vec F S4096x128 .bf16) (y : S2x8x128.Idx) : ∃ p ∈ normPieces x1, y ∈ p.1.set :=
  View.cover_of_tiledL (normPieces x1) S1x8x128.size (by sl_kernel_rfl) y

theorem zeros2 : (![0, 0] : Fin 2 → ℕ) = fun _ => 0 := by funext a; fin_cases a <;> rfl

/-- What is read of the scratch when the point is done, whichever branch stored last. -/
theorem read_scratch (v : View sig .tc .vmem S512x256 .f32) (f : v.ty.Contents (Elt F)) (p : Prop) [Decidable p] (A B : Fin 2 → FVec F S64x1024 .f32) :
    v.readAt (Elt F) (Rect.unit (s := S512x256) ![0, 0] S512x256.size inb_S512x256_S512x256_0_0).toLoadRect
        (if hc : p then v.writes (Elt F) f (headPieces A ++ headPieces B) else v.writes (Elt F) f (headPieces B))
      = if p then View.canon (headPieces A) else View.canon (headPieces B) := by
  rw [View.readAt_eq_ld, View.ld_unit_zero zeros2]
  split
  · exact View.read_writes_eq_canon v (v.writes (Elt F) f (headPieces B)) (headPieces A) (cover_heads A)
  · exact View.read_writes_eq_canon v f (headPieces B) (cover_heads B)

/-- A whole tile covers the output's block. -/
theorem cover_tile (w : FVec F S256x512 .bf16) (y : S256x512.Idx) :
    ∃ p ∈ [(⟨Rect.unit (s := S256x512) ![0, 0] S256x512.size inb_S256x512_S256x512_0_0, w⟩ : View.Piece (Elt F) S256x512 .bf16)], y ∈ p.1.set :=
  View.cover_of_tiledL _ S256x512.size (by sl_kernel_rfl) y

/-- The transposed values cover their buffer. -/
theorem cover_values (w : Vec F S128x4096 .bf16) (y : S128x4096.Idx) :
    ∃ p ∈ [(⟨Rect.unit (s := S128x4096) ![0, 0] S128x4096.size inb_S128x4096_S128x4096_0_0, w⟩ : View.Piece (Elt F) S128x4096 .bf16)], y ∈ p.1.set :=
  View.cover_of_tiledL _ S128x4096.size (by sl_kernel_rfl) y

set_option maxHeartbeats 400000 in
/-- A point that is not the first of its batch. -/
theorem run_rest (c : Dev nD) (i : grid0.Coords) (arg2 : Memref sig .tc .vmem S256x512 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S256x512 .bf16) (harg5 : arg5.IsWhole) (arg6 : Memref sig .tc .vmem S128x4096 .bf16) (harg6 : arg6.IsWhole)
    (arg7 : Memref sig .tc .vmem S2x8x128 .f32) (harg7 : arg7.IsWhole) (arg8 : Memref sig .tc .vmem S512x256 .f32) (harg8 : arg8.IsWhole)
    (hc0 : ¬ first i) (x0 : Vec F S256x512 .bf16) (x1 : Vec F S4096x128 .bf16) (x2 : Vec F S4096x128 .bf16) (xs0 : Vec F S128x4096 .bf16) (xs1 : Vec F S2x8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ owns (c : Thread nD τ) arg6 fullShare xs0 ∗ owns (c : Thread nD τ) arg7 fullShare xs1 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (tileOf x0 x1 xs0 xs1)
        ∗ owns (c : Thread nD τ) arg6 fullShare xs0 ∗ owns (c : Thread nD τ) arg7 fullShare xs1 ∗ (∃ d, owns (c : Thread nD τ) arg8 fullShare d)) -∗ K ⟨⟩))
      ⊢ wp frame (wpE (defs₀ (F := F)) Variants.none c none) E
          (cc0_attention i arg2 harg2 arg3 harg3 arg4 harg4 arg5 harg5 arg6 harg6 arg7 harg7 arg8 harg8) K := by
  simp only [cc0_attention_eq_skeleton]; unfold cc0_attention_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, Hk⟩
  obtain rfl := harg2.eq_unread hf0; obtain rfl := harg3.eq_unread hf1; obtain rfl := harg4.eq_unread hf2
  obtain rfl := harg6.eq_unread hfs0; obtain rfl := harg7.eq_unread hfs1
  sl_exec (disch := first | sl_exact hc0)
  have e8 : run_rest.sl.HS2_8 c arg2 harg2 arg3 harg3 arg6 harg6 arg7 harg7 x0 x1 xs0 xs1 = headPieces fun g => quotient (sumNorm x0 x1 xs0 xs1 g) := by
    delta run_rest.sl.HS2_8 run_rest.sl.r run_rest.sl.r_1 run_rest.sl.r_2 run_rest.sl.r_3 run_rest.sl.r_4 run_rest.sl.r_5 run_rest.sl.r_6 run_rest.sl.r_7 run_rest.sl.r_8 run_rest.sl.r_9 run_rest.sl.r_10 run_rest.sl.r_11 run_rest.sl.r_12 run_rest.sl.r_13 run_rest.sl.r_14 run_rest.sl.r_15 run_rest.sl.r_16 run_rest.sl.r_17 run_rest.sl.r_18 run_rest.sl.r_19 run_rest.sl.r_20 run_rest.sl.r_21 run_rest.sl.r_22 run_rest.sl.r_23 run_rest.sl.r_24 run_rest.sl.r_25 run_rest.sl.r_26 run_rest.sl.r_27 run_rest.sl.r_28 run_rest.sl.r_29 run_rest.sl.r_30
    simp only [View.readAt_eq_ld, hf0, hf1, hfs0, hfs1]
    rfl
  have e16 : (⟨Rect.unit (s := S512x256) ![448, 0] ![64, 256] inb_S512x256_S64x256_448_0, k0_pay2 (run_rest.sl.r_30 c arg2 harg2 arg3 harg3 arg6 harg6 x0 x1 xs0)⟩ :: run_rest.sl.HS2_15 c arg2 harg2 arg3 harg3 arg6 harg6 arg7 harg7 x0 x1 xs0 xs1 : List (View.Piece (Elt F) S512x256 .f32))
      = (headPieces fun g => quotient (sumMax x0 x1 xs0 g)) ++ headPieces fun g => quotient (sumNorm x0 x1 xs0 xs1 g) := by
    rw [← e8]
    delta run_rest.sl.HS2_15 run_rest.sl.r run_rest.sl.r_1 run_rest.sl.r_2 run_rest.sl.r_3 run_rest.sl.r_4 run_rest.sl.r_5 run_rest.sl.r_6 run_rest.sl.r_7 run_rest.sl.r_8 run_rest.sl.r_9 run_rest.sl.r_10 run_rest.sl.r_11 run_rest.sl.r_12 run_rest.sl.r_13 run_rest.sl.r_14 run_rest.sl.r_15 run_rest.sl.r_16 run_rest.sl.r_17 run_rest.sl.r_18 run_rest.sl.r_19 run_rest.sl.r_20 run_rest.sl.r_21 run_rest.sl.r_22 run_rest.sl.r_23 run_rest.sl.r_24 run_rest.sl.r_25 run_rest.sl.r_26 run_rest.sl.r_27 run_rest.sl.r_28 run_rest.sl.r_29 run_rest.sl.r_30
    simp only [View.readAt_eq_ld, hf0, hf1, hfs0, hfs1]
    rfl
  have el0 : run_rest.sl.r_7 c arg2 harg2 arg3 harg3 arg6 harg6 arg7 harg7 x0 x1 xs0 xs1 = smallest (sumNorm x0 x1 xs0 xs1 0) := by
    delta run_rest.sl.r run_rest.sl.r_1 run_rest.sl.r_2 run_rest.sl.r_3 run_rest.sl.r_4 run_rest.sl.r_5 run_rest.sl.r_6 run_rest.sl.r_7 run_rest.sl.r_8 run_rest.sl.r_9 run_rest.sl.r_10 run_rest.sl.r_11 run_rest.sl.r_12 run_rest.sl.r_13 run_rest.sl.r_14 run_rest.sl.r_15 run_rest.sl.r_16 run_rest.sl.r_17 run_rest.sl.r_18 run_rest.sl.r_19 run_rest.sl.r_20 run_rest.sl.r_21 run_rest.sl.r_22 run_rest.sl.r_23 run_rest.sl.r_24 run_rest.sl.r_25 run_rest.sl.r_26 run_rest.sl.r_27 run_rest.sl.r_28 run_rest.sl.r_29 run_rest.sl.r_30
    simp only [View.readAt_eq_ld, hf0, hf1, hfs0, hfs1]
    rfl
  have el1 : run_rest.sl.r_14 c arg2 harg2 arg3 harg3 arg6 harg6 arg7 harg7 x0 x1 xs0 xs1 = smallest (sumNorm x0 x1 xs0 xs1 1) := by
    delta run_rest.sl.r run_rest.sl.r_1 run_rest.sl.r_2 run_rest.sl.r_3 run_rest.sl.r_4 run_rest.sl.r_5 run_rest.sl.r_6 run_rest.sl.r_7 run_rest.sl.r_8 run_rest.sl.r_9 run_rest.sl.r_10 run_rest.sl.r_11 run_rest.sl.r_12 run_rest.sl.r_13 run_rest.sl.r_14 run_rest.sl.r_15 run_rest.sl.r_16 run_rest.sl.r_17 run_rest.sl.r_18 run_rest.sl.r_19 run_rest.sl.r_20 run_rest.sl.r_21 run_rest.sl.r_22 run_rest.sl.r_23 run_rest.sl.r_24 run_rest.sl.r_25 run_rest.sl.r_26 run_rest.sl.r_27 run_rest.sl.r_28 run_rest.sl.r_29 run_rest.sl.r_30
    simp only [View.readAt_eq_ld, hf0, hf1, hfs0, hfs1]
    rfl
  have es : run_rest.sl.v194 c arg2 harg2 arg3 harg3 arg6 harg6 arg7 harg7 arg8 x0 x1 xs0 xs1 fs2 = scratchOf x0 x1 xs0 xs1 := by
    delta run_rest.sl.v194
    rw [e8, e16, el0, el1]
    exact read_scratch _ _ _ _ _
  rw [es]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (cover_tile _), View.canon_unit_zero zeros2]
    rfl
  isplitl [HS0]
  · iexists _; isplitr; · ipureintro; exact harg6.read_unread _
    iexact HS0
  isplitl [HS1]
  · iexists _; isplitr; · ipureintro; exact harg7.read_unread _
    iexact HS1
  iexists _; iexists _; isplitr
  swap; · iexact HS2
  ipureintro; rfl

end Cert.Att
end
-- ==== Proof.BodyFirst.lean ====
module

public import proofs.«01_k».proof.Proof.Gen.KernelIdeal.Frame
public import proofs.«01_k».proof.Proof.BodyRest
public import Idealize.ShloMosaic.Lib.Pipeline.Value

/-!
# One run of the attention's body

Two runs of the whole body on whole buffers: at the first point of a batch, which prepares the transposed values and
the norm bounds, and at any other point, which finds them.  Both leave the tile `tileOf` names.
-/

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- The first point of a batch. -/
theorem run_first (c : Dev nD) (i : grid0.Coords) (arg2 : Memref sig .tc .vmem S256x512 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S256x512 .bf16) (harg5 : arg5.IsWhole) (arg6 : Memref sig .tc .vmem S128x4096 .bf16) (harg6 : arg6.IsWhole)
    (arg7 : Memref sig .tc .vmem S2x8x128 .f32) (harg7 : arg7.IsWhole) (arg8 : Memref sig .tc .vmem S512x256 .f32) (harg8 : arg8.IsWhole)
    (hc0 : first i) (x0 : Vec F S256x512 .bf16) (x1 : Vec F S4096x128 .bf16) (x2 : Vec F S4096x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (tileOf x0 x1 (valuesT x2) (normsOf x1))
        ∗ owns (c : Thread nD τ) arg6 fullShare (valuesT x2) ∗ owns (c : Thread nD τ) arg7 fullShare (normsOf x1) ∗ (∃ d, owns (c : Thread nD τ) arg8 fullShare d)) -∗ K ⟨⟩))
      ⊢ wp frame (wpE (defs₀ (F := F)) Variants.none c none) E
          (cc0_attention i arg2 harg2 arg3 harg3 arg4 harg4 arg5 harg5 arg6 harg6 arg7 harg7 arg8 harg8) K := by
  simp only [cc0_attention_eq_skeleton]; unfold cc0_attention_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | sl_exact hc0)
  have hS0 : run_first.sl.HS0_1 c arg4 harg4 x2
      = [⟨Rect.unit (s := S128x4096) ![0, 0] S128x4096.size inb_S128x4096_S128x4096_0_0, valuesT x2⟩] := by
    delta run_first.sl.HS0_1
    simp only [View.readAt_eq_ld, hf2]
    exact congrArg (fun x => [(⟨Rect.unit (s := S128x4096) ![0, 0] S128x4096.size inb_S128x4096_S128x4096_0_0, valuesT x⟩ : View.Piece (Elt F) S128x4096 .bf16)])
      (View.ld_unit_zero (S := S4096x128) zeros2 inb_S4096x128_S4096x128_0_0 x2)
  have hS1 : run_first.sl.HS1_2 c arg3 harg3 x1 = normPieces x1 := by
    delta run_first.sl.HS1_2
    simp only [View.readAt_eq_ld, hf1]
    exact congrArg normPieces (View.ld_unit_zero (S := S4096x128) zeros2 inb_S4096x128_S4096x128_0_0 x1)
  have hv : ∀ r : Rect S128x4096, arg6.view.readCov
      [⟨Rect.unit (s := S128x4096) ![0, 0] S128x4096.size inb_S128x4096_S128x4096_0_0, valuesT x2⟩] r.toLoadRect
        = View.ld (valuesT x2) r := fun r => by
    rw [View.readCov_eq_canon_ld _ _ r (cover_values _), View.canon_unit_zero zeros2]
  have hn : ∀ r : Rect S2x8x128, arg7.view.readCov (normPieces x1) r.toLoadRect = View.ld (normsOf x1) r := fun r =>
    View.readCov_eq_canon_ld _ _ r (cover_norms x1)
  have e8 : run_first.sl.HS2_8 c arg2 harg2 arg3 harg3 arg4 harg4 arg6 arg7 x0 x1 x2 = headPieces fun g => quotient (sumNorm x0 x1 (valuesT x2) (normsOf x1) g) := by
    delta run_first.sl.HS2_8 run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.v21 run_first.sl.v30 run_first.sl.v41 run_first.sl.v52 run_first.sl.v63 run_first.sl.v114 run_first.sl.v123 run_first.sl.v134 run_first.sl.v145 run_first.sl.v156
    simp only [hS0, hS1, hv, hn, View.readAt_eq_ld, hf0, hf1]
    try generalize valuesT x2 = vt
    try generalize normsOf x1 = km
    rfl
  have e16 : (⟨Rect.unit (s := S512x256) ![448, 0] ![64, 256] inb_S512x256_S64x256_448_0, k0_pay2 (run_first.sl.r_27 c arg2 harg2 arg3 harg3 arg4 harg4 arg6 x0 x1 x2)⟩ :: run_first.sl.HS2_15 c arg2 harg2 arg3 harg3 arg4 harg4 arg6 arg7 x0 x1 x2 : List (View.Piece (Elt F) S512x256 .f32))
      = (headPieces fun g => quotient (sumMax x0 x1 (valuesT x2) g)) ++ headPieces fun g => quotient (sumNorm x0 x1 (valuesT x2) (normsOf x1) g) := by
    rw [← e8]
    delta run_first.sl.HS2_15 run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.v21 run_first.sl.v30 run_first.sl.v41 run_first.sl.v52 run_first.sl.v63 run_first.sl.v114 run_first.sl.v123 run_first.sl.v134 run_first.sl.v145 run_first.sl.v156
    simp only [hS0, hS1, hv, hn, View.readAt_eq_ld, hf0, hf1]
    try generalize valuesT x2 = vt
    try generalize normsOf x1 = km
    rfl
  have el0 : run_first.sl.r_6 c arg2 harg2 arg3 harg3 arg4 harg4 arg6 arg7 x0 x1 x2 = smallest (sumNorm x0 x1 (valuesT x2) (normsOf x1) 0) := by
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.v21 run_first.sl.v30 run_first.sl.v41 run_first.sl.v52 run_first.sl.v63 run_first.sl.v114 run_first.sl.v123 run_first.sl.v134 run_first.sl.v145 run_first.sl.v156
    simp only [hS0, hS1, hv, hn, View.readAt_eq_ld, hf0, hf1]
    try generalize valuesT x2 = vt
    try generalize normsOf x1 = km
    rfl
  have el1 : run_first.sl.r_12 c arg2 harg2 arg3 harg3 arg4 harg4 arg6 arg7 x0 x1 x2 = smallest (sumNorm x0 x1 (valuesT x2) (normsOf x1) 1) := by
    delta run_first.sl.r run_first.sl.r_1 run_first.sl.r_2 run_first.sl.r_3 run_first.sl.r_4 run_first.sl.r_5 run_first.sl.r_6 run_first.sl.r_7 run_first.sl.r_8 run_first.sl.r_9 run_first.sl.r_10 run_first.sl.r_11 run_first.sl.r_12 run_first.sl.r_13 run_first.sl.r_14 run_first.sl.r_15 run_first.sl.r_16 run_first.sl.r_17 run_first.sl.r_18 run_first.sl.r_19 run_first.sl.r_20 run_first.sl.r_21 run_first.sl.r_22 run_first.sl.r_23 run_first.sl.r_24 run_first.sl.r_25 run_first.sl.r_26 run_first.sl.r_27 run_first.sl.v21 run_first.sl.v30 run_first.sl.v41 run_first.sl.v52 run_first.sl.v63 run_first.sl.v114 run_first.sl.v123 run_first.sl.v134 run_first.sl.v145 run_first.sl.v156
    simp only [hS0, hS1, hv, hn, View.readAt_eq_ld, hf0, hf1]
    try generalize valuesT x2 = vt
    try generalize normsOf x1 = km
    rfl
  have es : run_first.sl.v194 c arg2 harg2 arg3 harg3 arg4 harg4 arg6 arg7 arg8 x0 x1 x2 fs2 = scratchOf x0 x1 (valuesT x2) (normsOf x1) := by
    delta run_first.sl.v194
    rw [e8, e16, el0, el1]
    exact read_scratch _ _ _ _ _
  rw [es]
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (cover_tile _), View.canon_unit_zero zeros2]
    rfl
  rw [hS0, hS1]
  isplitl [HS0]
  · iexists _; isplitr
    swap; · iexact HS0
    ipureintro
    rw [View.read_writes_eq_canon _ _ _ (cover_values _), View.canon_unit_zero zeros2]
  isplitl [HS1]
  · iexists _; isplitr
    swap; · iexact HS1
    ipureintro
    exact View.read_writes_eq_canon _ _ _ (cover_norms x1)
  iexists _; iexists _; isplitr
  swap; · iexact HS2
  ipureintro; rfl

end Cert.Att
end
-- ==== Proof.Run.lean ====
module

public import proofs.«01_k».proof.Proof.BodyFirst
public import Idealize.ShloMosaic.Lib.Claim

/-!
# The run of the attention

Sixteen grid points make a batch; the first prepares the transposed values and the norm bounds of its own keys and
values, which every point of the batch finds.  So after point `t` the two prepared buffers hold what `base t`, the first
point of the batch of `t`, made of its blocks, and the output's buffer holds the tile of `t`.  The run of the whole launch
follows, over any reading of the floats.
-/

@[expose] public section

set_option maxRecDepth 16384

noncomputable section

namespace Cert.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 128 := lt_of_lt_of_eq t.isLt (show cfg0.N = 128 from N_0)

/-- The first points of the batches are the multiples of sixteen. -/
theorem first_iff (t : Fin cfg0.N) : first (grid0.coords t) ↔ t.val % 16 = 0 := by
  have ht := points t
  have e1 : (grid0.coords t 1).val = t.val / 1 % 16 := Pipeline.Grid.coords_val t 1 (by decide) rfl
  simp only [first, e1]
  word_cmp

/-- The first point of the batch of position `n`. -/
def base (n : ℕ) (hn : n < cfg0.N) : Fin cfg0.N := ⟨n / 16 * 16, lt_of_le_of_lt (Nat.div_mul_le_self n 16) hn⟩

theorem base_first (t : Fin cfg0.N) (h : t.val % 16 = 0) : base t.val t.isLt = t :=
  Fin.ext (Nat.div_mul_cancel (Nat.dvd_of_mod_eq_zero h))

theorem base_rest (t : Fin cfg0.N) (h : ¬ t.val % 16 = 0) (h' : t.val - 1 < cfg0.N) :
    base (t.val - 1) h' = base t.val t.isLt := by
  refine Fin.ext ?_
  show (t.val - 1) / 16 * 16 = t.val / 16 * 16
  omega

/-- The transposed values after position `n`. -/
def vtAt (c : Dev nD) (n : ℕ) (hn : n < cfg0.N) : Vec F S128x4096 .bf16 := valuesT (iblk m c 2 (base n hn))

/-- The norm bounds after position `n`. -/
def kmAt (c : Dev nD) (n : ℕ) (hn : n < cfg0.N) : Vec F S2x8x128 .f32 := normsOf (iblk m c 1 (base n hn))

/-- The tile of point `t`. -/
def tileAt (c : Dev nD) (t : Fin cfg0.N) : FVec F S256x512 .bf16 :=
  tileOf (iblk m c 0 t) (iblk m c 1 t) (vtAt m c t.val t.isLt) (kmAt m c t.val t.isLt)

abbrev buf0 : Memref sig .tc .vmem S128x4096 .bf16 := Memref.whole cc0_scratch0
abbrev buf1 : Memref sig .tc .vmem S2x8x128 .f32 := Memref.whole cc0_scratch1
abbrev buf2 : Memref sig .tc .vmem S512x256 .f32 := Memref.whole cc0_scratch2

/-- What the launch hands the region: the three buffers at anything, and the generator's register. -/
theorem handed_eq (c : Dev nD) :
    (Pipeline.ΦA spec0 c : sProp 𝕄)
      = iprop(iprop((∃ d, owns (c : Thread nD τ) buf0 fullShare d) ∗ (∃ d, owns (c : Thread nD τ) buf1 fullShare d)
          ∗ (∃ d, owns (c : Thread nD τ) buf2 fullShare d)) ∗ (∃ r, prngReg c r)) := by
  unfold Pipeline.ΦA; rw [scopedRest0_eq]; simp only [buf0, buf1, buf2, owns_whole]; rfl

/-- Between points: the prepared buffers hold what the point before left there. -/
def held (c : Dev nD) : (n : ℕ) → n ≤ cfg0.N → sProp 𝕄
  | 0, _ => Pipeline.ΦA spec0 c
  | n + 1, hn => iprop(iprop(owns (c : Thread nD τ) buf0 fullShare (vtAt m c n hn)
      ∗ owns (c : Thread nD τ) buf1 fullShare (kmAt m c n hn) ∗ (∃ d, owns (c : Thread nD τ) buf2 fullShare d)) ∗ (∃ r, prngReg c r))

theorem held_succ (c : Dev nD) (n : ℕ) (hn : n < cfg0.N) :
    held m c (n + 1) hn = iprop(iprop(owns (c : Thread nD τ) buf0 fullShare (vtAt m c n hn)
      ∗ owns (c : Thread nD τ) buf1 fullShare (kmAt m c n hn) ∗ (∃ d, owns (c : Thread nD τ) buf2 fullShare d)) ∗ (∃ r, prngReg c r)) := rfl

theorem held_pos (c : Dev nD) (n : ℕ) (h : n ≤ cfg0.N) (hz : n ≠ 0) :
    held m c n h = iprop(iprop(owns (c : Thread nD τ) buf0 fullShare (vtAt m c (n - 1) (by omega))
      ∗ owns (c : Thread nD τ) buf1 fullShare (kmAt m c (n - 1) (by omega)) ∗ (∃ d, owns (c : Thread nD τ) buf2 fullShare d)) ∗ (∃ r, prngReg c r)) := by
  cases n with
  | zero => exact absurd rfl hz
  | succ n => rfl

/-- At any position the buffers can be forgotten. -/
theorem held_forget (c : Dev nD) (n : ℕ) (h : n ≤ cfg0.N) :
    held m c n h ⊢ iprop(iprop((∃ d, owns (c : Thread nD τ) buf0 fullShare d) ∗ (∃ d, owns (c : Thread nD τ) buf1 fullShare d)
          ∗ (∃ d, owns (c : Thread nD τ) buf2 fullShare d)) ∗ (∃ r, prngReg c r)) := by
  cases n with
  | zero =>
    show Pipeline.ΦA spec0 c ⊢ _
    rw [handed_eq]
  | succ n =>
    rw [held_succ]
    iintro ⟨⟨H0, H1, H2⟩, Hg⟩
    isplitl [H0 H1 H2]
    · isplitl [H0]; · iexists _; iexact H0
      isplitl [H1]; · iexists _; iexact H1
      iexact H2
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileAt m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) : (dats m 0 c).Φ t.castSucc = held m c t.val (Nat.le_of_lt t.isLt) := by
  dsimp only [dats]; exact Pipeline.Dat.Φ_castSucc (held m c) t

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = tileAt m c t := by dsimp only [dats]

theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

/-- The buffers a point is handed. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- The buffers it gives back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
/-- The body at a point: it prepares the two buffers, or finds them prepared. -/
theorem body_at (c : Dev nD) (t : Fin cfg0.N) :
    pre m c t ⊢ wp frame (wpE (defs₀ (F := F)) Variants.none c none) Set.univ (bodyAt0 t) (fun _ => post m c t) := by
  unfold pre post bodyAt0
  simp only [before_q, before_k, before_v]
  rw [show (dats m 0 c).owesAt () t.succ = (dats m 0 c).owesAt () t.castSucc from rfl, after_q, after_k, after_v, after_o,
    show (dats m 0 c).Φ t.succ = held m c (t.val + 1) t.isLt from rfl, held_succ, held_castSucc]
  by_cases h : t.val % 16 = 0
  · refine (Idealize.SL.BI.Laws.sep_mono (held_forget m c _ _) (Idealize.SL.BI.Entails.refl _)).trans ?_
    rw [tileAt, vtAt, kmAt, base_first t h]
    iintro ⟨⟨⟨HS0, HS1, HS2⟩, Hg⟩, Ho, ⟨%d0, H0⟩, ⟨%d1, H1⟩, ⟨%d2, H2⟩, ⟨%d3, H3⟩⟩
    iapply (run_first c (grid0.coords t) _ _ _ _ _ _ _ _ _ _ _ _ _ _ ((first_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3
  · have hz : t.val ≠ 0 := fun e => h (by rw [e])
    rw [held_pos m c _ _ hz]
    rw [tileAt, show vtAt m c (t.val - 1) (by omega) = vtAt m c t.val t.isLt from congrArg (fun b => valuesT (iblk m c 2 b)) (base_rest t h _),
      show kmAt m c (t.val - 1) (by omega) = kmAt m c t.val t.isLt from congrArg (fun b => normsOf (iblk m c 1 b)) (base_rest t h _)]
    iintro ⟨⟨⟨HS0, HS1, HS2⟩, Hg⟩, Ho, ⟨%d0, H0⟩, ⟨%d1, H1⟩, ⟨%d2, H2⟩, ⟨%d3, H3⟩⟩
    iapply (run_rest c (grid0.coords t) _ _ _ _ _ _ _ _ _ _ _ _ _ _ (fun e => h ((first_iff t).mp e)) (iblk m c 0 t) (iblk m c 1 t) (iblk m c 2 t) _ _ Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    iexact H3

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

theorem enter (c : Dev nD) : Pipeline.ΦA spec0 c ⊢ (dats m 0 c).Φ 0 := by
  rw [show (dats m 0 c).Φ 0 = held m c 0 (Nat.zero_le _) from rfl]
  exact Idealize.SL.BI.Entails.refl _

theorem leave (c : Dev nD) : (dats m 0 c).Φ (Fin.last cfg0.N) ⊢ Pipeline.ΦA spec0 c := by
  rw [show (dats m 0 c).Φ (Fin.last cfg0.N) = held m c cfg0.N le_rfl from rfl, handed_eq]
  exact held_forget m c _ _

set_option backward.isDefEq.respectTransparency.types false in
/-- The run of the launch, every counter at zero at the end. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter is zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Att
end
-- ==== Proof.Inputs.lean ====
module

public import proofs.«01_k».proof.Proof.RefValue
public import proofs.«01_k».proof.Proof.Run
public import proofs.«01_k».proof.Proof.Gen.Pre_finite
public import proofs.«01_k».proof.Defs
public import Idealize.ShloMosaic.Lib.ReduceAll

/-!
# What the attention is handed

The precondition says that the arguments are real numbers.  The host hands the launch the queries with their batches
laid end to end and scaled by an eighth over the logarithm of two, and the keys and the values laid end to end.
-/

@[expose] public section

set_option maxRecDepth 16384

noncomputable section

namespace Cert.Att

open Cert.KernelIdeal Cert.KernelIdeal.Gen
open Idealize.ShloMosaic Idealize.ShloMosaic.TcCoe
open Cert.AttRef (batch row)

/-- A number whose size is below infinity is real. -/
theorem real_of_small (x : EReal) (h : Ideal.cmp .olt (max x (-x)) (Ideal.ofBits .f32 0x7F800000#32) = 1#1) :
    ∃ r : ℝ, x = (r : EReal) := by
  have e : Ideal.ofBits .f32 0x7F800000#32 = ⊤ := by simp [Ideal.ofBits, Ideal.ieee]
  rw [e] at h
  have hl : max x (-x) < ⊤ := by
    by_contra hn
    rw [Ideal.cmp] at h
    simp [hn] at h
  induction x with
  | bot => exact absurd hl (by simp)
  | coe r => exact ⟨r, rfl⟩
  | top => exact absurd hl (by simp)

section Host

variable (m : (ℓ : Loc nD τ sig) → Buf (Elt Ideal) ℓ) (c : Dev nD)

/-- The scale of the queries. -/
def scale : EReal := Ideal.div (Ideal.ofBits .f32 0x3E000000#32) (Ideal.log (Ideal.ofBits .f32 0x40000000#32))

theorem scale_real : scale = (((1 / 8) / Real.log 2 : ℝ) : EReal) := by
  unfold scale
  rw [half_word, two_word, log_coe two_pos, div_coe _ (Real.log_pos one_lt_two).ne']

/-- The queries the launch finds. -/
def hostQ (q : FVec Ideal S8x4096x512 .f32) : FVec Ideal S32768x512 .bf16 :=
  truncf .bf16 (mulf (shapeCast _ q shapeCasts_S8x4096x512_S32768x512)
    (broadcastInDim S32768x512 ![] bcast_S_S32768x512
      (Host.divf (constant S_ .f32 0x3E000000#32) (Host.log (constant S_ .f32 0x40000000#32))))) bitsLt_bf16_f32

/-- The keys, or the values, the launch finds. -/
def hostK (k : FVec Ideal S8x4096x128 .f32) : FVec Ideal S32768x128 .bf16 :=
  truncf .bf16 (shapeCast _ k shapeCasts_S8x4096x128_S32768x128) bitsLt_bf16_f32

theorem hostQ_at (q : FVec Ideal S8x4096x512 .f32) (R : Fin 32768) (C : Fin 512) :
    hostQ q (ix2 R C) = q (ix3 (batch R) (row R) C) * scale := by
  pointwise [hostQ, batch, row]
  rfl

theorem hostK_at (k : FVec Ideal S8x4096x128 .f32) (R : Fin 32768) (C : Fin 128) :
    hostK k (ix2 R C) = k (ix3 (batch R) (row R) C) := by
  pointwise [hostK, batch, row]

theorem entry_q : V m c main_v5 = hostQ (m ((c : Thread nD τ).loc main_arg0)) := by
  entry_read
  rfl

theorem entry_k : V m c main_v7 = hostK (m ((c : Thread nD τ).loc main_arg1)) := by
  entry_read
  rfl

theorem entry_v : V m c main_v9 = hostK (m ((c : Thread nD τ).loc main_arg2)) := by
  entry_read
  rfl

end Host

section Blocks

variable (m : (ℓ : Loc nD τ sig) → Buf (Elt Ideal) ℓ) (c : Dev nD)

/-- Which blocks a grid point holds: its own rows of the queries and of the result, its batch's keys and values. -/
theorem places : ∀ t : Fin cfg0.N, (win0_0.index t (0 : Fin 2) = t.val ∧ win0_0.index t (1 : Fin 2) = 0)
    ∧ (win0_1.index t (0 : Fin 2) = t.val / 16 ∧ win0_1.index t (1 : Fin 2) = 0)
    ∧ (win0_2.index t (0 : Fin 2) = t.val / 16 ∧ win0_2.index t (1 : Fin 2) = 0)
    ∧ win0_3.index t (0 : Fin 2) = t.val ∧ win0_3.index t (1 : Fin 2) = 0 :=
  (by decide +kernel : ∀ t : Fin grid0.N, _)

/-- The batch of a grid point. -/
def batchAt (t : Fin cfg0.N) : Fin 8 := ⟨t.val / 16, by have := points t; omega⟩
/-- Row `r` of a grid point, in its batch. -/
def rowAt (t : Fin cfg0.N) (r : Fin 256) : Fin 4096 := ⟨256 * (t.val % 16) + r.val, by omega⟩
/-- Row `r` of a grid point, in the array. -/
def rowIn (t : Fin cfg0.N) (r : Fin 256) : Fin 32768 := ⟨256 * t.val + r.val, by have := points t; omega⟩
/-- Key `s` of a grid point, in the array. -/
def keyIn (t : Fin cfg0.N) (s : Fin 4096) : Fin 32768 := ⟨4096 * (t.val / 16) + s.val, by have := points t; omega⟩

theorem batch_rowIn (t : Fin cfg0.N) (r : Fin 256) : batch (rowIn t r) = batchAt t :=
  Fin.ext (by show (256 * t.val + r.val) / 4096 = t.val / 16; omega)
theorem row_rowIn (t : Fin cfg0.N) (r : Fin 256) : row (rowIn t r) = rowAt t r :=
  Fin.ext (by show (256 * t.val + r.val) % 4096 = 256 * (t.val % 16) + r.val; omega)
theorem batch_keyIn (t : Fin cfg0.N) (s : Fin 4096) : batch (keyIn t s) = batchAt t :=
  Fin.ext (by show (4096 * (t.val / 16) + s.val) / 4096 = t.val / 16; omega)
theorem row_keyIn (t : Fin cfg0.N) (s : Fin 4096) : row (keyIn t s) = s :=
  Fin.ext (by show (4096 * (t.val / 16) + s.val) % 4096 = s.val; omega)
theorem batchAt_base (t : Fin cfg0.N) : batchAt (base t.val t.isLt) = batchAt t :=
  Fin.ext (by show t.val / 16 * 16 / 16 = t.val / 16; omega)

theorem emb_q (t : Fin cfg0.N) (r : Fin 256) (e : Fin 512) :
    ((cfg0.win 0).blk t).view.emb (ix2 r e : S256x512.Idx) = (ix2 (rowIn t r) e : S32768x512.Idx) := by
  obtain ⟨⟨e0, e1⟩, -⟩ := places t
  funext a
  apply Fin.ext
  match a with
  | ⟨0, _⟩ =>
    show win0_0.index t (0 : Fin 2) * 256 + 1 * r.val = 256 * t.val + r.val
    omega
  | ⟨1, _⟩ =>
    show win0_0.index t (1 : Fin 2) * 512 + 1 * e.val = e.val
    omega

theorem emb_k (t : Fin cfg0.N) (s : Fin 4096) (e : Fin 128) :
    ((cfg0.win 1).blk t).view.emb (ix2 s e : S4096x128.Idx) = (ix2 (keyIn t s) e : S32768x128.Idx) := by
  obtain ⟨-, ⟨e0, e1⟩, -⟩ := places t
  funext a
  apply Fin.ext
  match a with
  | ⟨0, _⟩ =>
    show win0_1.index t (0 : Fin 2) * 4096 + 1 * s.val = 4096 * (t.val / 16) + s.val
    omega
  | ⟨1, _⟩ =>
    show win0_1.index t (1 : Fin 2) * 128 + 1 * e.val = e.val
    omega

theorem emb_v (t : Fin cfg0.N) (s : Fin 4096) (e : Fin 128) :
    ((cfg0.win 2).blk t).view.emb (ix2 s e : S4096x128.Idx) = (ix2 (keyIn t s) e : S32768x128.Idx) := by
  obtain ⟨-, -, ⟨e0, e1⟩, -⟩ := places t
  funext a
  apply Fin.ext
  match a with
  | ⟨0, _⟩ =>
    show win0_2.index t (0 : Fin 2) * 4096 + 1 * s.val = 4096 * (t.val / 16) + s.val
    omega
  | ⟨1, _⟩ =>
    show win0_2.index t (1 : Fin 2) * 128 + 1 * e.val = e.val
    omega

theorem emb_o (t : Fin cfg0.N) (r : Fin 256) (e : Fin 512) :
    ((cfg0.win 3).blk t).view.emb (ix2 r e : S256x512.Idx) = (ix2 (rowIn t r) e : S32768x512.Idx) := by
  obtain ⟨-, -, -, e0, e1⟩ := places t
  funext a
  apply Fin.ext
  match a with
  | ⟨0, _⟩ =>
    show win0_3.index t (0 : Fin 2) * 256 + 1 * r.val = 256 * t.val + r.val
    omega
  | ⟨1, _⟩ =>
    show win0_3.index t (1 : Fin 2) * 512 + 1 * e.val = e.val
    omega

theorem block_q (t : Fin cfg0.N) (r : Fin 256) (e : Fin 512) :
    iblk m c 0 t (ix2 r e : S256x512.Idx) = hostQ (m ((c : Thread nD τ).loc main_arg0)) (ix2 (rowIn t r) e) := by
  show V m c main_v5 (((cfg0.win 0).blk t).view.emb (ix2 r e : S256x512.Idx)) = _
  rw [emb_q, entry_q]

theorem block_k (t : Fin cfg0.N) (s : Fin 4096) (e : Fin 128) :
    iblk m c 1 t (ix2 s e : S4096x128.Idx) = m ((c : Thread nD τ).loc main_arg1) (ix3 (batchAt t) s e : S8x4096x128.Idx) := by
  show V m c main_v7 (((cfg0.win 1).blk t).view.emb (ix2 s e : S4096x128.Idx)) = _
  rw [emb_k, entry_k, hostK_at, batch_keyIn, row_keyIn]

theorem block_v (t : Fin cfg0.N) (s : Fin 4096) (e : Fin 128) :
    iblk m c 2 t (ix2 s e : S4096x128.Idx) = m ((c : Thread nD τ).loc main_arg2) (ix3 (batchAt t) s e : S8x4096x128.Idx) := by
  show V m c main_v9 (((cfg0.win 2).blk t).view.emb (ix2 s e : S4096x128.Idx)) = _
  rw [emb_v, entry_v, hostK_at, batch_keyIn, row_keyIn]

end Blocks

section Finite

variable (q : FVec Ideal S8x4096x512 .f32) (k v : FVec Ideal S8x4096x128 .f32)

/-- The precondition: the three arguments are real. -/
theorem finite_real (h : Cert.Pre_finite.fn (F := Ideal) q k v = fun _ => 1#1) :
    (∀ i, ∃ r : ℝ, q i = (r : EReal)) ∧ (∀ i, ∃ r : ℝ, k i = (r : EReal)) ∧ ∀ i, ∃ r : ℝ, v i = (r : EReal) := by
  have h0 := congrFun h ix0
  obtain ⟨h1, hv⟩ := IntOp.andi_eq_one.1 h0
  obtain ⟨hq, hk⟩ := IntOp.andi_eq_one.1 h1
  haveI : Subsingleton Cert.Pre_finite.S_.Idx := ⟨fun a b => funext fun x => x.elim0⟩
  exact ⟨fun i => real_of_small _ (Host.reduce_andi_all _ _ _ _ _ hq i), fun i => real_of_small _ (Host.reduce_andi_all _ _ _ _ _ hk i),
    fun i => real_of_small _ (Host.reduce_andi_all _ _ _ _ _ hv i)⟩

end Finite

end Cert.Att
end
-- ==== Proof.TileReads.lean ====
module

public import proofs.«01_k».proof.Proof.Tile
public import proofs.«01_k».proof.Proof.Softmax
public import Idealize.ShloMosaic.Lib.Pointwise
public import Idealize.ShloMosaic.Lib.Pipeline.ValueKit

/-!
# The attention's tile, read at an index

Over the extended reals: each named piece of a grid point's work at one index, as sums and maxima of the entries of
the blocks.
-/

@[expose] public section

set_option maxRecDepth 16384

noncomputable section

namespace Cert.Att

open Cert.KernelIdeal Cert.KernelIdeal.Gen
open Idealize.ShloMosaic

/-- The row of the stacked queries that holds row `r` of query head `j`. -/
def stacked (j : Fin 4) (r : Fin 256) : Fin 1024 := ⟨256 * j.val + r.val, by omega⟩

/-- Column `e` of query head `j` of key head `g`. -/
def qcol (g : Fin 2) (j : Fin 4) (e : Fin 64) : Fin 512 := ⟨256 * g.val + 64 * j.val + e.val, by omega⟩

/-- Column `e` of key head `g`. -/
def kcol (g : Fin 2) (e : Fin 64) : Fin 128 := ⟨64 * g.val + e.val, by omega⟩

/-- Key `s` of chunk `c`. -/
def key (c : Fin 4) (s : Fin 1024) : Fin 4096 := ⟨1024 * c.val + s.val, by omega⟩

theorem scores_at (q : FVec Ideal S1024x64 .bf16) (k : Vec Ideal S1024x64 .bf16) (s t : Fin 1024) :
    scores q k (ix2 s t) = ∑ e : Fin 64, k (ix2 s e) * q (ix2 t e) := by
  pointwise [scores]

theorem kChunk_at (x1 : Vec Ideal S4096x128 .bf16) (g : Fin 2) (c : Fin 4) (s : Fin 1024) (e : Fin 64) :
    kChunk x1 g c (ix2 s e) = x1 (ix2 (key c s) (kcol g e)) := by
  pointwise [kChunk, key, kcol]

theorem vChunk_at (vt : Vec Ideal S128x4096 .bf16) (g : Fin 2) (c : Fin 4) (s : Fin 1024) (e : Fin 64) :
    vChunk vt g c (ix2 e s) = vt (ix2 (kcol g e) (key c s)) := by
  pointwise [vChunk, key, kcol]

theorem qHeads_at (x0 : Vec Ideal S256x512 .bf16) (g : Fin 2) (j : Fin 4) (r : Fin 256) (e : Fin 64) :
    qHeads x0 g (ix2 (stacked j r) e) = x0 (ix2 r (qcol g j e)) := by
  pointwise [qHeads, qCols, stacked, qcol]
  have hr := r.isLt
  match j with
  | ⟨0, _⟩ => rw [dif_pos (by simp only []; omega)]; congr 2 <;> apply Fin.ext <;> simp
  | ⟨1, _⟩ => rw [dif_neg (by simp only []; omega), dif_pos (by simp only []; omega)]; congr 2; apply Fin.ext; simp
  | ⟨2, _⟩ => rw [dif_neg (by simp only []; omega), dif_neg (by simp only []; omega), dif_pos (by simp only []; omega)]
              congr 2; apply Fin.ext; simp; omega
  | ⟨3, _⟩ => rw [dif_neg (by simp only []; omega), dif_neg (by simp only []; omega), dif_neg (by simp only []; omega)]
              congr 2; apply Fin.ext; simp; omega

theorem weighted_at (m : FVec Ideal S1x1024 .f32) (q : FVec Ideal S1024x64 .bf16) (k : Vec Ideal S1024x64 .bf16)
    (v : Vec Ideal S64x1024 .bf16) (p : Fin 80) (t : Fin 1024) :
    weighted m q k v (ix2 p t)
      = ∑ s : Fin 1024, (if h : p.val < 64 then v (ix2 ⟨p.val, h⟩ s) else 1)
          * Ideal.exp2 ((∑ e : Fin 64, k (ix2 s e) * q (ix2 t e)) - m (ix2 0 t)) := by
  pointwise [weighted, withOnes, scores]
  rfl

theorem normShift_at (q : FVec Ideal S1024x64 .bf16) (km : Vec Ideal S1x8x128 .f32) (t : Fin 1024) :
    normShift q km (ix2 0 t) = Ideal.sqrt (∑ e : Fin 64, q (ix2 t e) * q (ix2 t e)) * km (ix3 0 0 0) * Ideal.ofBits .f32 0x3F8147AE#32 := by
  pointwise [normShift]

theorem quotient_at (o : FVec Ideal S80x1024 .f32) (d : Fin 64) (t : Fin 1024) :
    quotient o (ix2 d t) = Ideal.div (o (ix2 ⟨d.val, by omega⟩ t)) (o (ix2 64 t)) := by
  pointwise [quotient]

theorem headCols_at (o : FVec Ideal S64x1024 .f32) (j : Fin 4) (d : Fin 64) (r : Fin 256) :
    headCols o j (ix2 d r) = o (ix2 d (stacked j r)) := by
  pointwise [headCols, stacked]

theorem valuesT_at (x2 : Vec Ideal S4096x128 .bf16) (a : Fin 128) (b : Fin 4096) : valuesT x2 (ix2 a b) = x2 (ix2 b a) := by
  pointwise [valuesT]

/-- The largest of a box of numbers is one of them. -/
theorem fold_max_box {a b c : ℕ} [NeZero a] [NeZero b] [NeZero c] (f : Fin a → Fin b → Fin c → EReal) :
    ∃ x y z, Finset.univ.fold max ⊥ (fun x => Finset.univ.fold max ⊥ fun y => Finset.univ.fold max ⊥ fun z => f x y z) = f x y z := by
  obtain ⟨x, hx⟩ := fold_max_mem fun x => Finset.univ.fold max ⊥ fun y => Finset.univ.fold max ⊥ fun z => f x y z
  obtain ⟨y, hy⟩ := fold_max_mem fun y => Finset.univ.fold max ⊥ fun z => f x y z
  obtain ⟨z, hz⟩ := fold_max_mem fun z => f x y z
  exact ⟨x, y, z, by rw [hx, hy, hz]⟩

/-- The row of a chunk of scores that the maxima by sixteenths, eighths and eighths reach at `(z, y, x)`. -/
def boxed (x : Fin 8) (y : Fin 8) (z : Fin 16) : Fin 1024 := ⟨z.val * 64 + (y.val * 8 + x.val), by omega⟩

/-- The running maximum of what it was and the chunk's scores, eighths of eighths of sixteenths. -/
theorem runMax_box (m : FVec Ideal S1x1024 .f32) (q : FVec Ideal S1024x64 .bf16) (k : Vec Ideal S1024x64 .bf16) (t : Fin 1024) :
    runMax m q k (ix2 0 t) = max (m (ix2 0 t)) (Finset.univ.fold max ⊥ fun x : Fin 8 => Finset.univ.fold max ⊥ fun y : Fin 8 =>
      Finset.univ.fold max ⊥ fun z : Fin 16 => scores q k (ix2 (boxed x y z) t)) := by
  unfold runMax
  generalize scores q k = S
  rw [← bottom_word]
  pointwise [boxed]

/-- The running maximum is the larger of what it was and some score of the chunk. -/
theorem runMax_at (m : FVec Ideal S1x1024 .f32) (q : FVec Ideal S1024x64 .bf16) (k : Vec Ideal S1024x64 .bf16) (t : Fin 1024) :
    ∃ s : Fin 1024, runMax m q k (ix2 0 t) = max (m (ix2 0 t)) (scores q k (ix2 s t)) := by
  have h := fold_max_box fun (x : Fin 8) (y : Fin 8) (z : Fin 16) => scores q k (ix2 (boxed x y z) t)
  rw [runMax_box]
  obtain ⟨x, y, z, h⟩ := h
  exact ⟨boxed x y z, congrArg (max (m (ix2 0 t))) h⟩

/-- The largest norm is the norm of some row. -/
theorem largestNorm_at (s : FVec Ideal S4096x64 .bf16) :
    ∃ p : Fin 4096, largestNorm s (ix3 0 0 0) = Ideal.sqrt (∑ e : Fin 64, s (ix2 p e)) := by
  pointwise [largestNorm]
  simp only [show Ideal.ofBits FTy.f32 4286578688#32 = ⊥ from bottom_word]
  obtain ⟨a, ha⟩ := fold_max_mem fun x : Fin 8 × Fin 4096 => ∑ e : Fin 64, s (ix2 x.2 e)
  exact ⟨a.2, congrArg Ideal.sqrt ha⟩

theorem squares_at (x1 : Vec Ideal S4096x128 .bf16) (p : Fin 4096) (a : Fin 128) :
    squares x1 (ix2 p a) = x1 (ix2 p a) * x1 (ix2 p a) := by
  pointwise [squares]

theorem coords (g : Fin 2) (j : Fin 4) (d x : Fin 64) (g' : Fin 2) (j' : Fin 4)
    (h : 256 * g.val + 64 * j.val + d.val = 256 * g'.val + 64 * j'.val + x.val) : g = g' ∧ j = j' ∧ d = x := by
  simp only [Fin.ext_iff]
  omega

/-- The scratch, from its eight pieces. -/
theorem heads_at (o : Fin 2 → FVec Ideal S64x1024 .f32) (g : Fin 2) (j : Fin 4) (d : Fin 64) (r : Fin 256) :
    View.canon (headPieces o) (ix2 (qcol g j d) r) = o g (ix2 d (stacked j r)) := by
  have key : ∀ y : S512x256.Idx, y = ix2 (qcol g j d) r → View.canon (headPieces o) y = o g (ix2 d (stacked j r)) := by
    intro y hy
    unfold headPieces headPiece
    canon_tiles x h
    all_goals
      subst hy
      idx_vars x
      rw [headCols_at]
      have e0 : 256 * g.val + 64 * j.val + d.val = _ := h0
      have e1 : r.val = _ := h1
      clear h0 h1
      obtain rfl : r = x1 := Fin.ext e1
    · obtain ⟨rfl, rfl, rfl⟩ : g = 1 ∧ j = 3 ∧ d = x0 := coords g j d x0 1 3 (e0.trans rfl)
      rfl
    · obtain ⟨rfl, rfl, rfl⟩ : g = 1 ∧ j = 2 ∧ d = x0 := coords g j d x0 1 2 (e0.trans rfl)
      rfl
    · obtain ⟨rfl, rfl, rfl⟩ : g = 1 ∧ j = 1 ∧ d = x0 := coords g j d x0 1 1 (e0.trans rfl)
      rfl
    · obtain ⟨rfl, rfl, rfl⟩ : g = 1 ∧ j = 0 ∧ d = x0 := coords g j d x0 1 0 (e0.trans rfl)
      rfl
    · obtain ⟨rfl, rfl, rfl⟩ : g = 0 ∧ j = 3 ∧ d = x0 := coords g j d x0 0 3 (e0.trans rfl)
      rfl
    · obtain ⟨rfl, rfl, rfl⟩ : g = 0 ∧ j = 2 ∧ d = x0 := coords g j d x0 0 2 (e0.trans rfl)
      rfl
    · obtain ⟨rfl, rfl, rfl⟩ : g = 0 ∧ j = 1 ∧ d = x0 := coords g j d x0 0 1 (e0.trans rfl)
      rfl
    · obtain ⟨rfl, rfl, rfl⟩ : g = 0 ∧ j = 0 ∧ d = x0 := coords g j d x0 0 0 (e0.trans (Nat.zero_add _).symm)
      rfl
  exact key _ rfl

theorem kNorm_at (km : Vec Ideal S2x8x128 .f32) (g : Fin 2) : kNorm km g (ix3 0 0 0) = km (ix3 g 0 0) := by
  pointwise [kNorm]

/-- The norm bound of a key head is the norm of some key of that head. -/
theorem normsOf_at (x1 : Vec Ideal S4096x128 .bf16) (g : Fin 2) :
    ∃ p : Fin 4096, normsOf x1 (ix3 g 0 0) = Ideal.sqrt (∑ e : Fin 64, x1 (ix2 p (kcol g e)) * x1 (ix2 p (kcol g e))) := by
  have side (b : Fin 2) (L : FVec Ideal S1x8x128 .f32) (K : FVec Ideal S1x8x128 .f32) :
      View.canon [(⟨Rect.unit (s := S2x8x128) ![1, 0, 0] S1x8x128.size inb_S2x8x128_S1x8x128_1_0_0, L⟩ : View.Piece (Elt Ideal) S2x8x128 .f32),
        ⟨Rect.unit (s := S2x8x128) ![0, 0, 0] S1x8x128.size inb_S2x8x128_S1x8x128_0_0_0, K⟩] (ix3 b 0 0)
        = if b = 1 then L (ix3 0 0 0) else K (ix3 0 0 0) := by
    generalize hy : (ix3 b 0 0 : S2x8x128.Idx) = y
    canon_tiles x h
    all_goals
      subst hy
      idx_vars x
      obtain rfl : x1 = 0 := Fin.ext h1.symm
      obtain rfl : x2 = 0 := Fin.ext h2.symm
      obtain rfl : x0 = 0 := Fin.ext (by omega)
    · rw [if_pos (Fin.ext h0)]
    · rw [if_neg (fun e => by subst e; exact absurd h0 (by decide))]
  unfold normsOf normPieces
  rw [side]
  by_cases hg : g = 1
  · subst hg
    rw [if_pos rfl]
    obtain ⟨p, hp⟩ := largestNorm_at (extractStridedSlice S4096x64 ![0, 64] (squares x1) slices_S4096x128_o0_64_S4096x64)
    refine ⟨p, hp.trans (congrArg Ideal.sqrt (Finset.sum_congr rfl fun e _ => ?_))⟩
    pointwise [squares, kcol]
  · obtain rfl : g = 0 := by omega
    rw [if_neg hg]
    obtain ⟨p, hp⟩ := largestNorm_at (extractStridedSlice S4096x64 ![0, 0] (squares x1) slices_S4096x128_o0_0_S4096x64)
    refine ⟨p, hp.trans (congrArg Ideal.sqrt (Finset.sum_congr rfl fun e _ => ?_))⟩
    pointwise [squares, kcol]

end Cert.Att
end
-- ==== Proof.TileValue.lean ====
module

public import proofs.«01_k».proof.Proof.TileReads

/-!
# The attention's tile as a softmax

Where the blocks hold real numbers, a grid point's tile holds the softmax's weighted means of the values, whichever of
the two shifts was taken: the bound by the norms or the running maximum.
-/

@[expose] public section

set_option maxRecDepth 16384

noncomputable section

namespace Cert.Att

open Cert.KernelIdeal Cert.KernelIdeal.Gen
open Idealize.ShloMosaic

/-- A sum over the keys, chunk by chunk. -/
theorem sum_keys (f : Fin 4096 → ℝ) : ∑ s, f s = ∑ c ∈ Finset.range 4, ∑ s : Fin 1024, f (key (Fin.ofNat 4 c) s) := by
  rw [Finset.sum_range fun c => ∑ s : Fin 1024, f (key (Fin.ofNat 4 c) s), ← Fintype.sum_prod_type', ← (finProdFinEquiv (m := 4) (n := 1024)).sum_comp]
  refine Finset.sum_congr rfl fun x _ => congrArg f (Fin.ext ?_)
  show x.2.val + 1024 * x.1.val = 1024 * (x.1.val % 4) + x.2.val
  have := x.1.isLt
  rw [Nat.mod_eq_of_lt this]
  omega

variable (x0 : Vec Ideal S256x512 .bf16) (x1 : Vec Ideal S4096x128 .bf16) (vt : Vec Ideal S128x4096 .bf16)
variable (qr : Fin 256 → Fin 512 → ℝ) (kr : Fin 4096 → Fin 128 → ℝ) (vr : Fin 128 → Fin 4096 → ℝ)

/-- The score of key `s` for row `r` of query head `j` of key head `g`, as the kernel scales it. -/
def bits (g : Fin 2) (j : Fin 4) (r : Fin 256) (s : Fin 4096) : ℝ := ∑ e : Fin 64, kr s (kcol g e) * qr r (qcol g j e)

/-- Row `p` of the values of key head `g` over the rows of ones. -/
def padded (g : Fin 2) (p : Fin 80) (s : Fin 4096) : ℝ := if h : p.val < 64 then vr (kcol g ⟨p.val, h⟩) s else 1

/-- The weighted sums shifted by the real `M` of the chunks below `n`. -/
def partSum (g : Fin 2) (j : Fin 4) (r : Fin 256) (M : ℝ) (n : ℕ) (p : Fin 80) : ℝ :=
  ∑ c ∈ Finset.range n, ∑ s : Fin 1024,
    padded vr g p (key (Fin.ofNat 4 c) s) * Real.rpow 2 (bits qr kr g j r (key (Fin.ofNat 4 c) s) - M)

variable (hq : ∀ r e, x0 (ix2 r e) = ((qr r e : ℝ) : EReal)) (hk : ∀ s e, x1 (ix2 s e) = ((kr s e : ℝ) : EReal))
variable (hv : ∀ e s, vt (ix2 e s) = ((vr e s : ℝ) : EReal))

include hq hk in
theorem scores_real (g : Fin 2) (j : Fin 4) (r : Fin 256) (c : Fin 4) (s : Fin 1024) :
    scores (qHeads x0 g) (kChunk x1 g c) (ix2 s (stacked j r)) = ((bits qr kr g j r (key c s) : ℝ) : EReal) := by
  rw [scores_at, bits, coe_sum]
  refine Finset.sum_congr rfl fun e _ => ?_
  rw [kChunk_at, qHeads_at, hk, hq, EReal.coe_mul]

include hq hk hv in
theorem weighted_real (m : FVec Ideal S1x1024 .f32) (M : ℝ) (g : Fin 2) (j : Fin 4) (r : Fin 256) (c : Fin 4)
    (hm : m (ix2 0 (stacked j r)) = ((M : ℝ) : EReal)) (p : Fin 80) :
    weighted m (qHeads x0 g) (kChunk x1 g c) (vChunk vt g c) (ix2 p (stacked j r))
      = ((∑ s : Fin 1024, padded vr g p (key c s) * Real.rpow 2 (bits qr kr g j r (key c s) - M) : ℝ) : EReal) := by
  rw [weighted_at, coe_sum]
  refine Finset.sum_congr rfl fun s _ => ?_
  have hs := scores_real x0 x1 qr kr hq hk g j r c s
  rw [scores_at] at hs
  rw [hs, hm, ← EReal.coe_sub, exp2_coe, EReal.coe_mul]
  refine congrArg (· * (_ : EReal)) ?_
  unfold padded
  split
  · rw [vChunk_at, hv]
  · rfl

include hq in
theorem normShift_real (km : Vec Ideal S2x8x128 .f32) (g : Fin 2) (j : Fin 4) (r : Fin 256)
    (hkm : ∃ R : ℝ, km (ix3 g 0 0) = (R : EReal)) :
    ∃ M : ℝ, normShift (qHeads x0 g) (kNorm km g) (ix2 0 (stacked j r)) = (M : EReal) := by
  obtain ⟨R, hR⟩ := hkm
  obtain ⟨w, hw⟩ := margin_word
  have hs : (∑ e : Fin 64, qHeads x0 g (ix2 (stacked j r) e) * qHeads x0 g (ix2 (stacked j r) e))
      = ((∑ e : Fin 64, qr r (qcol g j e) * qr r (qcol g j e) : ℝ) : EReal) := by
    rw [coe_sum]
    exact Finset.sum_congr rfl fun e _ => by rw [qHeads_at, hq, EReal.coe_mul]
  rw [normShift_at, hs, sqrt_coe (Finset.sum_nonneg fun e _ => mul_self_nonneg _), kNorm_at, hR, hw]
  exact ⟨√(∑ e : Fin 64, qr r (qcol g j e) * qr r (qcol g j e)) * R * w, by rw [EReal.coe_mul, EReal.coe_mul]⟩

include hk in
/-- The norm bounds of real keys are real. -/
theorem normsOf_real (g : Fin 2) : ∃ R : ℝ, normsOf x1 (ix3 g 0 0) = (R : EReal) := by
  obtain ⟨p, hp⟩ := normsOf_at x1 g
  have hs : (∑ e : Fin 64, x1 (ix2 p (kcol g e)) * x1 (ix2 p (kcol g e)))
      = ((∑ e : Fin 64, kr p (kcol g e) * kr p (kcol g e) : ℝ) : EReal) := by
    rw [coe_sum]
    exact Finset.sum_congr rfl fun e _ => by rw [hk, EReal.coe_mul]
  exact ⟨_, by rw [hp, hs, sqrt_coe (Finset.sum_nonneg fun e _ => mul_self_nonneg _)]⟩

theorem start_at (p : Fin 80) (t : Fin 1024) : start (F := Ideal) (ix2 p t) = 0 := by
  pointwise [start]

theorem noMax_at (t : Fin 1024) : noMax (F := Ideal) (ix2 0 t) = ⊥ := bottom_word

theorem sumMoved_at (m m' : FVec Ideal S1x1024 .f32) (q : FVec Ideal S1024x64 .bf16) (k : Vec Ideal S1024x64 .bf16)
    (v : Vec Ideal S64x1024 .bf16) (o : FVec Ideal S80x1024 .f32) (p : Fin 80) (t : Fin 1024) :
    sumMoved m m' q k v o (ix2 p t) = Ideal.exp2 (m (ix2 0 t) - m' (ix2 0 t)) * o (ix2 p t) + weighted m' q k v (ix2 p t) := by
  unfold sumMoved
  generalize weighted m' q k v = W
  pointwise []
  rfl

include hq hk hv in
/-- The sums shifted by the norms are sums shifted by a real number. -/
theorem sumNorm_real (km : Vec Ideal S2x8x128 .f32) (g : Fin 2) (j : Fin 4) (r : Fin 256)
    (hkm : ∃ R : ℝ, km (ix3 g 0 0) = (R : EReal)) :
    ∃ M : ℝ, ∀ p, sumNorm x0 x1 vt km g (ix2 p (stacked j r)) = ((partSum qr kr vr g j r M 4 p : ℝ) : EReal) := by
  obtain ⟨M, hM⟩ := normShift_real x0 qr hq km g j r hkm
  refine ⟨M, fun p => ?_⟩
  have h := fun c => weighted_real x0 x1 vt qr kr vr hq hk hv _ M g j r c hM p
  unfold partSum
  rw [Finset.sum_range_succ, Finset.sum_range_succ, Finset.sum_range_succ, Finset.sum_range_one]
  rw [EReal.coe_add, EReal.coe_add, EReal.coe_add]
  refine Eq.trans ?_ (congrArg₂ (· + ·) (congrArg₂ (· + ·) (congrArg₂ (· + ·) (h 0) (h 1)) (h 2)) (h 3))
  show start (F := Ideal) (ix2 p (stacked j r)) + _ + _ + _ + _ = _
  rw [start_at, zero_add]

include hq hk hv in
/-- After the first `n + 1` chunks the running maximum is real and the sums are the sums shifted by it. -/
theorem sumAfter_real (g : Fin 2) (j : Fin 4) (r : Fin 256) (n : ℕ) :
    ∃ M : ℝ, maxAfter (qHeads x0 g) (nth (kChunk x1 g)) (n + 1) (ix2 0 (stacked j r)) = (M : EReal)
      ∧ ∀ p, sumAfter (qHeads x0 g) (nth (kChunk x1 g)) (nth (vChunk vt g)) (n + 1) (ix2 p (stacked j r))
        = ((partSum qr kr vr g j r M (n + 1) p : ℝ) : EReal) := by
  induction n with
  | zero =>
    obtain ⟨s, hs⟩ := runMax_at (noMax (F := Ideal)) (qHeads x0 g) (nth (kChunk x1 g) 0) (stacked j r)
    have hM : maxAfter (qHeads x0 g) (nth (kChunk x1 g)) 1 (ix2 0 (stacked j r))
        = ((bits qr kr g j r (key (Fin.ofNat 4 0) s) : ℝ) : EReal) := by
      refine hs.trans ?_
      rw [noMax_at, nth, scores_real x0 x1 qr kr hq hk]
      exact max_eq_right bot_le
    refine ⟨_, hM, fun p => ?_⟩
    have hw := weighted_real x0 x1 vt qr kr vr hq hk hv _ _ g j r (Fin.ofNat 4 0) hM p
    show sumMoved noMax _ _ _ _ start _ = _
    rw [sumMoved_at, start_at, mul_zero, zero_add]
    refine hw.trans ?_
    unfold partSum
    rw [Finset.sum_range_one]
  | succ n ih =>
    obtain ⟨M, hM, hp⟩ := ih
    obtain ⟨s, hs⟩ := runMax_at (maxAfter (qHeads x0 g) (nth (kChunk x1 g)) (n + 1)) (qHeads x0 g) (nth (kChunk x1 g) (n + 1)) (stacked j r)
    have hM' : maxAfter (qHeads x0 g) (nth (kChunk x1 g)) (n + 2) (ix2 0 (stacked j r))
        = ((max M (bits qr kr g j r (key (Fin.ofNat 4 (n + 1)) s)) : ℝ) : EReal) := by
      refine hs.trans ?_
      rw [hM, nth, scores_real x0 x1 qr kr hq hk]
      exact (EReal.coe_strictMono.monotone.map_max).symm
    refine ⟨_, hM', fun p => ?_⟩
    generalize max M (bits qr kr g j r (key (Fin.ofNat 4 (n + 1)) s)) = M' at hM'
    have hw := weighted_real x0 x1 vt qr kr vr hq hk hv _ _ g j r (Fin.ofNat 4 (n + 1)) hM' p
    show sumMoved (maxAfter _ _ (n + 1)) (maxAfter _ _ (n + 2)) _ _ _ (sumAfter _ _ _ (n + 1)) _ = _
    rw [sumMoved_at, hp p, hM, hM', ← EReal.coe_sub, exp2_coe, ← EReal.coe_mul]
    refine (congrArg (_ + ·) hw).trans ?_
    rw [← EReal.coe_add]
    refine congrArg _ ?_
    unfold partSum
    rw [Finset.sum_range_succ _ (n + 1), Finset.mul_sum]
    refine congrArg (· + _) (Finset.sum_congr rfl fun c _ => ?_)
    rw [Finset.mul_sum]
    refine Finset.sum_congr rfl fun s _ => ?_
    rw [mul_left_comm, two_move]

/-- The quotient of sums shifted by a real number is the weighted mean. -/
theorem quotient_real (o : FVec Ideal S80x1024 .f32) (g : Fin 2) (j : Fin 4) (r : Fin 256) (M : ℝ) (sc : Fin 4096 → ℝ)
    (hsc : ∀ s, bits qr kr g j r s * Real.log 2 = sc s)
    (h : ∀ p, o (ix2 p (stacked j r)) = ((partSum qr kr vr g j r M 4 p : ℝ) : EReal)) (d : Fin 64) :
    quotient o (ix2 d (stacked j r)) = ((mean sc (vr (kcol g d)) : ℝ) : EReal) := by
  have hn : partSum qr kr vr g j r M 4 ⟨d.val, by omega⟩ = ∑ s, vr (kcol g d) s * Real.rpow 2 (bits qr kr g j r s - M) := by
    rw [sum_keys]
    refine Finset.sum_congr rfl fun c _ => Finset.sum_congr rfl fun s _ => ?_
    rw [padded, dif_pos d.isLt]
  have hd : partSum qr kr vr g j r M 4 64 = ∑ s, Real.rpow 2 (bits qr kr g j r s - M) := by
    rw [sum_keys]
    refine Finset.sum_congr rfl fun c _ => Finset.sum_congr rfl fun s _ => ?_
    rw [padded, dif_neg (by decide), one_mul]
  rw [quotient_at, h, h, hn, hd, div_coe _ (Finset.sum_pos (fun s _ => two_pos' _) Finset.univ_nonempty).ne', mean_two sc _ _ M hsc]

include hq hk hv in
/-- The tile at row `r`, column `d` of query head `j` of key head `g`. -/
theorem tile_real (km : Vec Ideal S2x8x128 .f32) (hkm : ∀ g, ∃ R : ℝ, km (ix3 g 0 0) = (R : EReal))
    (g : Fin 2) (j : Fin 4) (r : Fin 256) (d : Fin 64) (sc : Fin 4096 → ℝ) (hsc : ∀ s, bits qr kr g j r s * Real.log 2 = sc s) :
    tileOf x0 x1 vt km (ix2 r (qcol g j d)) = ((mean sc (vr (kcol g d)) : ℝ) : EReal) := by
  have hn : View.canon (headPieces fun g => quotient (sumNorm x0 x1 vt km g)) (ix2 (qcol g j d) r) = ((mean sc (vr (kcol g d)) : ℝ) : EReal) := by
    obtain ⟨M, hM⟩ := sumNorm_real x0 x1 vt qr kr vr hq hk hv km g j r (hkm g)
    rw [heads_at, quotient_real qr kr vr _ g j r M sc hsc hM]
  have hx : View.canon (headPieces fun g => quotient (sumMax x0 x1 vt g)) (ix2 (qcol g j d) r) = ((mean sc (vr (kcol g d)) : ℝ) : EReal) := by
    obtain ⟨M, -, hM⟩ := sumAfter_real x0 x1 vt qr kr vr hq hk hv g j r 3
    rw [heads_at]
    exact quotient_real qr kr vr _ g j r M sc hsc hM d
  have hs : scratchOf x0 x1 vt km (ix2 (qcol g j d) r) = ((mean sc (vr (kcol g d)) : ℝ) : EReal) := by
    unfold scratchOf
    split
    · exact hx
    · exact hn
  refine Eq.trans ?_ hs
  unfold tileOf
  generalize scratchOf x0 x1 vt km = S
  pointwise []

end Cert.Att
end
-- ==== Proof.Out.lean ====
module

public import proofs.«01_k».proof.Proof.Inputs
public import proofs.«01_k».proof.Proof.TileValue
public import Idealize.ShloMosaic.Lib.Pipeline.Value

/-!
# What the attention leaves

The 128 tiles cover the result.  On real arguments each holds the softmax attention of its rows, so the result is the
softmax attention.
-/

@[expose] public section

set_option maxRecDepth 16384

noncomputable section

namespace Cert.Att

open Cert.KernelIdeal Cert.KernelIdeal.Gen
open Idealize.ShloMosaic Idealize.ShloMosaic.TcCoe Idealize.SL.Sem
open Cert.AttRef (batch row keyHead queryHead column attention)

variable (m : (ℓ : Loc nD τ sig) → Buf (Elt Ideal) ℓ) (ρ : Dev nD → PrngReg) (c : Dev nD)

theorem qcol_heads (C : Fin 512) : qcol (keyHead C) (queryHead C) (column C) = C :=
  Fin.ext (by show 256 * (C.val / 256) + 64 * (C.val / 64 % 4) + C.val % 64 = C.val; omega)

theorem qAt_eq (g : Fin 2) (j : Fin 4) (e : Fin 64) : Cert.AttRef.qAt g j e = qcol g j e :=
  Fin.ext (by show g.val * 256 + j.val * 64 + e.val = 256 * g.val + 64 * j.val + e.val; omega)

theorem kAt_eq (g : Fin 2) (e : Fin 64) : Cert.AttRef.kAt g e = kcol g e :=
  Fin.ext (by show g.val * 64 + e.val = 64 * g.val + e.val; omega)

variable (qr : Fin 8 → Fin 4096 → Fin 512 → ℝ) (kr vr : Fin 8 → Fin 4096 → Fin 128 → ℝ)

/-- The softmax attention as the result's array. -/
def answer : FVec Ideal S32768x512 .bf16 := fun i =>
  ((attention qr kr vr (batch (i 0)) (row (i 0)) (keyHead (i 1)) (queryHead (i 1)) (column (i 1)) : ℝ) : EReal)

variable (hq : ∀ b r e, (m ((c : Thread nD τ).loc main_arg0) : FVec Ideal S8x4096x512 .f32) (ix3 b r e) = ((qr b r e : ℝ) : EReal))
variable (hk : ∀ b r e, (m ((c : Thread nD τ).loc main_arg1) : FVec Ideal S8x4096x128 .f32) (ix3 b r e) = ((kr b r e : ℝ) : EReal))
variable (hv : ∀ b r e, (m ((c : Thread nD τ).loc main_arg2) : FVec Ideal S8x4096x128 .f32) (ix3 b r e) = ((vr b r e : ℝ) : EReal))

include hq in
theorem block_q_real (t : Fin cfg0.N) (r : Fin 256) (e : Fin 512) :
    (iblk m c 0 t : Vec Ideal S256x512 .bf16) (ix2 r e) = ((qr (batchAt t) (rowAt t r) e * ((1 / 8) / Real.log 2) : ℝ) : EReal) := by
  refine (block_q m c t r e).trans ?_
  rw [hostQ_at, batch_rowIn, row_rowIn, hq, scale_real, EReal.coe_mul]

include hk in
theorem block_k_real (t : Fin cfg0.N) (s : Fin 4096) (e : Fin 128) :
    (iblk m c 1 t : Vec Ideal S4096x128 .bf16) (ix2 s e) = ((kr (batchAt t) s e : ℝ) : EReal) :=
  (block_k m c t s e).trans (hk _ _ _)

include hv in
theorem values_real (t : Fin cfg0.N) (e : Fin 128) (s : Fin 4096) :
    vtAt m c t.val t.isLt (ix2 e s) = ((vr (batchAt t) s e : ℝ) : EReal) := by
  unfold vtAt
  rw [valuesT_at]
  refine (block_v m c _ s e).trans ((hv _ _ _).trans ?_)
  rw [batchAt_base]

include hq hk hv in
/-- A grid point's tile is its rows of the softmax attention. -/
theorem tile_answer (t : Fin cfg0.N) (r : Fin 256) (C : Fin 512) :
    tileAt m c t (ix2 r C) = answer qr kr vr (ix2 (rowIn t r) C) := by
  have hkm : ∀ g, ∃ R : ℝ, kmAt m c t.val t.isLt (ix3 g 0 0) = (R : EReal) := fun g =>
    normsOf_real _ (fun s e => kr (batchAt (base t.val t.isLt)) s e) (block_k_real m c kr hk _) g
  have h := tile_real (iblk m c 0 t) (iblk m c 1 t) (vtAt m c t.val t.isLt)
    (fun r e => qr (batchAt t) (rowAt t r) e * ((1 / 8) / Real.log 2)) (fun s e => kr (batchAt t) s e) (fun e s => vr (batchAt t) s e)
    (block_q_real m c qr hq t) (block_k_real m c kr hk t) (values_real m c vr hv t) (kmAt m c t.val t.isLt) hkm
    (keyHead C) (queryHead C) r (column C)
    (fun s => ∑ e : Fin 64, kr (batchAt t) s (kcol (keyHead C) e) * (qr (batchAt t) (rowAt t r) (qcol (keyHead C) (queryHead C) e) * (1 / 8)))
    (fun s => by
      have hl : Real.log 2 ≠ 0 := (Real.log_pos one_lt_two).ne'
      rw [bits, Finset.sum_mul]
      refine Finset.sum_congr rfl fun e _ => ?_
      field_simp)
  rw [qcol_heads] at h
  refine h.trans ?_
  show _ = ((attention qr kr vr (batch (rowIn t r)) (row (rowIn t r)) (keyHead C) (queryHead C) (column C) : ℝ) : EReal)
  rw [batch_rowIn, row_rowIn, attention]
  simp only [qAt_eq, kAt_eq]

include hq hk hv in
theorem flushed_answer (t : Fin cfg0.N) :
    (dats m 0 c).flushed 3 t = ((cfg0.win 3).blk t).view.read (Elt Ideal) (answer qr kr vr) := by
  show (cfg0.win 3).cut (grid0.coords t) ((dats m 0 c).after 3 t) = _
  rw [after_o]
  funext y
  have h : ∀ y : S256x512.Idx, tileAt m c t y = answer qr kr vr (((cfg0.win 3).blk t).view.emb y) := fun y => by
    rw [eq_ix2 y]
    exact (tile_answer m c qr kr vr hq hk hv t (y 0) (y 1)).trans (congrArg (answer qr kr vr) (emb_o t (y 0) (y 1)).symm)
  have hx : (cfg0.win 3).xinj (grid0.coords t) y = y := by
    funext a
    match a with | ⟨0, _⟩ => rfl | ⟨1, _⟩ => rfl
  exact (congrArg (tileAt m c t) hx).trans (h y)

theorem mem_blk (t : Fin cfg0.N) (i : S32768x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v10).slice (win0_3.rect t)).set ↔ _
  rw [View.set_slice_whole, Rect.mem_set_unit]
  exact Iff.rfl

theorem flushes : ∀ t : Fin cfg0.N, (cfg0.win 3).flush t = true :=
  (by decide +kernel : ∀ t : Fin grid0.N, win0_3.flush t = true)

theorem covered (i : S32768x512.Idx) : ∃ t : Fin cfg0.N, (cfg0.win 3).flush t = true ∧ i ∈ ((cfg0.win 3).blk t).view.set := by
  have hi0 : (i 0).val < 32768 := (i 0).isLt
  have hi1 : (i 1).val < 512 := (i 1).isLt
  refine ⟨⟨(i 0).val / 256, lt_of_lt_of_eq (by omega) N_0.symm⟩, flushes _, ?_⟩
  rw [mem_blk]
  obtain ⟨-, -, -, e0, e1⟩ := places ⟨(i 0).val / 256, lt_of_lt_of_eq (by omega) N_0.symm⟩
  intro a
  match a with
  | ⟨0, _⟩ =>
    show win0_3.index _ (0 : Fin 2) * 256 ≤ (i 0).val ∧ (i 0).val < win0_3.index _ (0 : Fin 2) * 256 + 256
    rw [e0]
    show (i 0).val / 256 * 256 ≤ (i 0).val ∧ (i 0).val < (i 0).val / 256 * 256 + 256
    omega
  | ⟨1, _⟩ =>
    show win0_3.index _ (1 : Fin 2) * 512 ≤ (i 1).val ∧ (i 1).val < win0_3.index _ (1 : Fin 2) * 512 + 512
    rw [e1]
    omega

include hq hk hv in
/-- The result's array after the run. -/
theorem final_answer : (dats m 0 c).arrAt 3 cfg0.N = answer qr kr vr :=
  (dats m 0 c).arrAt_eq_of_cover 3 _ (fun t _ => flushed_answer m c qr kr vr hq hk hv t) covered

/-- The run: the result at what the tiles make, the arguments unchanged. -/
theorem run_arrays : θ_run (Cert.KernelIdeal.defs (F := Ideal)) (onTc (τ := τ) (main (F := Ideal))) ⟨m, fun _ => 0, ρ⟩ fun r => ∀ c : Dev nD,
      r.2.mem ((c : Thread nD τ).loc main_v10) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

/-- The reference's result on the same arguments. -/
theorem reference_answer (q : FVec Ideal S8x4096x512 .f32) (k v : FVec Ideal S8x4096x128 .f32)
    (hq : ∀ b r e, q (ix3 b r e) = ((qr b r e : ℝ) : EReal)) (hk : ∀ b r e, k (ix3 b r e) = ((kr b r e : ℝ) : EReal))
    (hv : ∀ b r e, v (ix3 b r e) = ((vr b r e : ℝ) : EReal)) : Cert.AttRef.result q k v = answer qr kr vr := by
  funext i
  have hi : i = ix2 (i 0 : Fin 32768) (i 1 : Fin 512) := by
    funext a
    match a with | ⟨0, _⟩ => rfl | ⟨1, _⟩ => rfl
  rw [hi]
  exact Cert.AttRef.result_real q k v qr kr vr hq hk hv _ _

end Cert.Att
end
-- ==== Proof.FfnBody.lean ====
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Claim
public import Idealize.ShloMosaic.Lib.Pipeline.FrameBody
public import Idealize.ShloMosaic.Lib.Pipeline.Frame
public import Idealize.ShloMosaic.Lib.Ring
public import Idealize.ShloMosaic.Lib.Pipeline.Value

/-!
# The body of the experts

A point with rows casts the weights of its expert into the two kept buffers when the expert is new, and then computes its
block of rows from the kept weights; a point without rows writes zeros.  Over any reading of the floats.
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the blocks' experts, and the table of the numbers of their rows. -/
abbrev tabE : Memref sig .tc .smem S288 .i32 := Memref.whole main_arg0
abbrev tabN : Memref sig .tc .smem S288 .i32 := Memref.whole main_arg1

/-- A word of a table. -/
abbrev wordE (T : S288.Idx → Elt F .i32) (o : Fin 1 → ℕ) (h : ∀ a, o a + S1.size a ≤ S288.size a) : Elt F .i32 :=
  View.readAt (Elt F) tabE.view (Rect.unit (s := S288) o S1.size h).toLoadRect T (Shape.Idx.first (numel1_S1.symm ▸ Nat.one_pos))
abbrev wordN (T : S288.Idx → Elt F .i32) (o : Fin 1 → ℕ) (h : ∀ a, o a + S1.size a ≤ S288.size a) : Elt F .i32 :=
  View.readAt (Elt F) tabN.view (Rect.unit (s := S288) o S1.size h).toLoadRect T (Shape.Idx.first (numel1_S1.symm ▸ Nat.one_pos))

/-- The number of rows of a point, its expert, and the expert of the point before. -/
abbrev rowsAt (T : S288.Idx → Elt F .i32) (i : grid0.Coords) : Elt F .i32 := wordN (F := F) T (k0_off1 i) (k0_off1_inb i)
abbrev expertAt (T : S288.Idx → Elt F .i32) (i : grid0.Coords) : Elt F .i32 := wordE (F := F) T (k0_off1 i) (k0_off1_inb i)
abbrev expertBefore (T : S288.Idx → Elt F .i32) (i : grid0.Coords) : Elt F .i32 := wordE (F := F) T (k0_off2 i) (k0_off2_inb i)

/-- The point has rows and its expert is new. -/
abbrev fresh (T0 T1 : S288.Idx → Elt F .i32) (i : grid0.Coords) : Prop :=
  (Scalar.cmpi .ne (Scalar.extui (Scalar.andi (Scalar.cmpi .sgt (rowsAt (F := F) T1 i) 0#32)
    (Scalar.ori (Scalar.cmpi .eq (BitVec.ofNat 32 (i 0).val) 0#32) (Scalar.cmpi .ne (expertAt (F := F) T0 i) (expertBefore (F := F) T0 i))))) 0#32) = 1#1

/-- The kept weights of an expert. -/
def keptUp (x1 : Vec F S1x1024x2048 .f32) : FVec F S1024x2048 .bf16 := k0_pay1 x1
def keptDown (x3 : Vec F S1x1024x1024 .f32) : FVec F S1024x1024 .bf16 := k0_pay2 x3

/-- The block of a point with `n` rows. -/
def blockOf (n : Elt F .i32) (x0 : Vec F S512x512 .i32) (x2 : Vec F S1x1x2048 .f32) (x4 : Vec F S1x1x1024 .f32)
    (u : Vec F S1024x2048 .bf16) (d : Vec F S1024x1024 .bf16) : FVec F S512x1024 .bf16 :=
  k0_pay3 (k0_pay8 (k0_pay5 n (View.ld x0 (Rect.unit (s := S512x512) ![0, 0] S512x512.size inb_S512x512_S512x512_0_0)))
      (k0_pay6 n (View.ld x0 (Rect.unit (s := S512x512) ![0, 0] S512x512.size inb_S512x512_S512x512_0_0))
        (View.ld u (Rect.unit (s := S1024x2048) ![0, 1024] S1024x512.size inb_S1024x2048_S1024x512_0_1024))
        (View.ld x2 (Rect.unit (s := S1x1x2048) ![0, 0, 1024] S1x1x512.size inb_S1x1x2048_S1x1x512_0_0_1024)))
      (k0_pay7 n (View.ld x0 (Rect.unit (s := S512x512) ![0, 0] S512x512.size inb_S512x512_S512x512_0_0))
        (View.ld u (Rect.unit (s := S1024x2048) ![0, 0] S1024x512.size inb_S1024x2048_S1024x512_0_0))
        (View.ld x2 (Rect.unit (s := S1x1x2048) ![0, 0, 0] S1x1x512.size inb_S1x1x2048_S1x1x512_0_0_0)))
      (View.ld d (Rect.unit (s := S1024x1024) ![0, 0] S512x1024.size inb_S1024x1024_S512x1024_0_0))
      (View.ld u (Rect.unit (s := S1024x2048) ![0, 512] S1024x512.size inb_S1024x2048_S1024x512_0_512))
      (View.ld x2 (Rect.unit (s := S1x1x2048) ![0, 0, 512] S1x1x512.size inb_S1x1x2048_S1x1x512_0_0_512))
      (View.ld u (Rect.unit (s := S1024x2048) ![0, 1536] S1024x512.size inb_S1024x2048_S1024x512_0_1536))
      (View.ld x2 (Rect.unit (s := S1x1x2048) ![0, 0, 1536] S1x1x512.size inb_S1x1x2048_S1x1x512_0_0_1536))
      (View.ld d (Rect.unit (s := S1024x1024) ![512, 0] S512x1024.size inb_S1024x1024_S512x1024_512_0)))
    (View.ld x4 (Rect.unit (s := S1x1x1024) ![0, 0, 0] S1x1x1024.size inb_S1x1x1024_S1x1x1024_0_0_0))

theorem zeros2 : (![0, 0] : Fin 2 → ℕ) = fun _ => 0 := by funext a; fin_cases a <;> rfl
theorem zeros3 : (![0, 0, 0] : Fin 3 → ℕ) = fun _ => 0 := by funext a; fin_cases a <;> rfl

theorem cover_block (w : FVec F S512x1024 .bf16) (y : S512x1024.Idx) :
    ∃ p ∈ [(⟨Rect.unit (s := S512x1024) ![0, 0] S512x1024.size inb_S512x1024_S512x1024_0_0, w⟩ : View.Piece (Elt F) S512x1024 .bf16)], y ∈ p.1.set :=
  View.cover_of_tiledL _ S512x1024.size (by sl_kernel_rfl) y
theorem cover_up (w : FVec F S1024x2048 .bf16) (y : S1024x2048.Idx) :
    ∃ p ∈ [(⟨Rect.unit (s := S1024x2048) ![0, 0] S1024x2048.size inb_S1024x2048_S1024x2048_0_0, w⟩ : View.Piece (Elt F) S1024x2048 .bf16)], y ∈ p.1.set :=
  View.cover_of_tiledL _ S1024x2048.size (by sl_kernel_rfl) y
theorem cover_down (w : FVec F S1024x1024 .bf16) (y : S1024x1024.Idx) :
    ∃ p ∈ [(⟨Rect.unit (s := S1024x1024) ![0, 0] S1024x1024.size inb_S1024x1024_S1024x1024_0_0, w⟩ : View.Piece (Elt F) S1024x1024 .bf16)], y ∈ p.1.set :=
  View.cover_of_tiledL _ S1024x1024.size (by sl_kernel_rfl) y

section
variable (c : Dev nD) (i : grid0.Coords) (arg3 : Memref sig .tc .vmem S512x512 .i32) (harg3 : arg3.IsWhole)
    (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole)
    (arg8 : Memref sig .tc .vmem S512x1024 .bf16) (harg8 : arg8.IsWhole) (arg9 : Memref sig .tc .vmem S1024x2048 .bf16) (harg9 : arg9.IsWhole)
    (arg10 : Memref sig .tc .vmem S1024x1024 .bf16) (harg10 : arg10.IsWhole)
    (T0 T1 : S288.Idx → Elt F .i32)
    (x0 : Vec F S512x512 .i32) (x1 : Vec F S1x1024x2048 .f32) (x2 : Vec F S1x1x2048 .f32) (x3 : Vec F S1x1024x1024 .f32) (x4 : Vec F S1x1x1024 .f32)

/-- What a point finds and leaves unchanged: its five blocks and the two tables. -/
def found : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4
    ∗ (tabE.view.loc (c : Thread nD τ) ↦{fullShare.right} T0) ∗ (tabN.view.loc (c : Thread nD τ) ↦{fullShare.right} T1))

set_option maxHeartbeats 1600000 in
/-- A point with rows whose expert is new. -/
theorem run_fresh (hc0 : fresh T0 T1 i) (h2 : k0_cond2 (rowsAt (F := F) T1 i) = 1#1) (h3 : ¬ k0_cond3 (rowsAt (F := F) T1 i) = 1#1) (K : PUnit → sProp 𝕄) :
    iprop(found c arg3 arg4 arg5 arg6 arg7 T0 T1 x0 x1 x2 x3 x4 ∗ (∃ d, owns (c : Thread nD τ) arg8 fullShare d)
        ∗ (∃ d, owns (c : Thread nD τ) arg9 fullShare d) ∗ (∃ d, owns (c : Thread nD τ) arg10 fullShare d)
        ∗ (iprop(found c arg3 arg4 arg5 arg6 arg7 T0 T1 x0 x1 x2 x3 x4
          ∗ owns (c : Thread nD τ) arg8 fullShare (blockOf (rowsAt (F := F) T1 i) x0 x2 x4 (keptUp x1) (keptDown x3))
          ∗ owns (c : Thread nD τ) arg9 fullShare (keptUp x1) ∗ owns (c : Thread nD τ) arg10 fullShare (keptDown x3)) -∗ K ⟨⟩))
      ⊢ wp frame (wpE (defs₀ (F := F)) Variants.none c none) Set.univ
          (cc0_experts i tabE (Memref.isWhole_whole _) tabN (Memref.isWhole_whole _) arg3 harg3 arg4 harg4 arg5 harg5 arg6 harg6 arg7 harg7 arg8 harg8 arg9 harg9 arg10 harg10) K := by
  simp only [cc0_experts_eq_skeleton]; unfold cc0_experts_skel
  simp only [k0_part1_eq_skeleton, k0_part2_eq_skeleton]
  unfold found owns
  iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, ⟨%ds0, %fs0, -, HS0⟩, ⟨%ds1, %fs1, -, HS1⟩, Hk⟩
  obtain rfl := harg3.eq_unread hf0; obtain rfl := harg4.eq_unread hf1; obtain rfl := harg5.eq_unread hf2
  obtain rfl := harg6.eq_unread hf3; obtain rfl := harg7.eq_unread hf4
  have hT0 : tabE.IsWhole := Memref.isWhole_whole _
  have hT1 : tabN.IsWhole := Memref.isWhole_whole _
  sl_exec (disch := first | (exact hc0) | (exact h2) | (exact h3))
  have e0 : ∀ f, arg9.view.read (Elt F) (arg9.view.writes (Elt F) f (run_fresh.sl.HS0_1 c arg4 harg4 x1)) = keptUp x1 := fun f => by
    delta run_fresh.sl.HS0_1
    rw [View.read_writes_eq_canon _ _ _ (cover_up _), View.canon_unit_zero zeros2]
    rw [View.readAt_eq_ld, View.ld_unit_zero zeros3, hf1]
    rfl
  have e1 : ∀ f, arg10.view.read (Elt F) (arg10.view.writes (Elt F) f (run_fresh.sl.HS1_1 c arg6 harg6 x3)) = keptDown x3 := fun f => by
    delta run_fresh.sl.HS1_1
    rw [View.read_writes_eq_canon _ _ _ (cover_down _), View.canon_unit_zero zeros2]
    rw [View.readAt_eq_ld, View.ld_unit_zero zeros3, hf3]
    rfl
  sl_step
  iapply Hk
  isplitl [H0 H1 H2 H3 H4 HT0 HT1]
  · isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HT0]; · iexact HT0
    iexact HT1
  isplitl [H5]
  · iexists _; isplitr
    swap; · iexact H5
    ipureintro
    rw [View.read_writes_eq_canon _ _ _ (cover_block _), View.canon_unit_zero zeros2]
    delta run_fresh.sl.r_7
    delta run_fresh.sl.r run_fresh.sl.r_1 run_fresh.sl.r_2 run_fresh.sl.r_3 run_fresh.sl.r_4 run_fresh.sl.r_5 run_fresh.sl.r_6
    delta run_fresh.sl.v37 run_fresh.sl.v43 run_fresh.sl.v63 run_fresh.sl.v65 run_fresh.sl.v71 run_fresh.sl.v91
    simp only [View.readCov, View.readAt_eq_ld, e0, e1, hf0, hf2, hf4]
    rfl
  isplitl [HS0]
  · iexists _; isplitr
    swap; · iexact HS0
    ipureintro
    exact e0 _
  iexists _; isplitr
  swap; · iexact HS1
  ipureintro
  exact e1 _

set_option maxHeartbeats 1600000 in
/-- A point with rows whose expert is the one of the point before. -/
theorem run_kept (u : Vec F S1024x2048 .bf16) (d : Vec F S1024x1024 .bf16)
    (hc0 : ¬ fresh T0 T1 i) (h2 : k0_cond2 (rowsAt (F := F) T1 i) = 1#1) (h3 : ¬ k0_cond3 (rowsAt (F := F) T1 i) = 1#1) (K : PUnit → sProp 𝕄) :
    iprop(found c arg3 arg4 arg5 arg6 arg7 T0 T1 x0 x1 x2 x3 x4 ∗ (∃ d, owns (c : Thread nD τ) arg8 fullShare d)
        ∗ owns (c : Thread nD τ) arg9 fullShare u ∗ owns (c : Thread nD τ) arg10 fullShare d
        ∗ (iprop(found c arg3 arg4 arg5 arg6 arg7 T0 T1 x0 x1 x2 x3 x4
          ∗ owns (c : Thread nD τ) arg8 fullShare (blockOf (rowsAt (F := F) T1 i) x0 x2 x4 u d)
          ∗ owns (c : Thread nD τ) arg9 fullShare u ∗ owns (c : Thread nD τ) arg10 fullShare d) -∗ K ⟨⟩))
      ⊢ wp frame (wpE (defs₀ (F := F)) Variants.none c none) Set.univ
          (cc0_experts i tabE (Memref.isWhole_whole _) tabN (Memref.isWhole_whole _) arg3 harg3 arg4 harg4 arg5 harg5 arg6 harg6 arg7 harg7 arg8 harg8 arg9 harg9 arg10 harg10) K := by
  simp only [cc0_experts_eq_skeleton]; unfold cc0_experts_skel
  simp only [k0_part1_eq_skeleton, k0_part2_eq_skeleton]
  unfold found owns
  iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hf4
  obtain rfl := harg9.eq_unread hfs0; obtain rfl := harg10.eq_unread hfs1
  have hT0 : tabE.IsWhole := Memref.isWhole_whole _
  have hT1 : tabN.IsWhole := Memref.isWhole_whole _
  sl_exec (disch := first | (exact hc0) | (exact h2) | (exact h3))
  sl_step
  iapply Hk
  isplitl [H0 H1 H2 H3 H4 HT0 HT1]
  · isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HT0]; · iexact HT0
    iexact HT1
  isplitl [H5]
  · iexists _; isplitr
    swap; · iexact H5
    ipureintro
    rw [View.read_writes_eq_canon _ _ _ (cover_block _), View.canon_unit_zero zeros2]
    delta run_kept.sl.r_7
    delta run_kept.sl.r run_kept.sl.r_1 run_kept.sl.r_2 run_kept.sl.r_3 run_kept.sl.r_4 run_kept.sl.r_5 run_kept.sl.r_6
    simp only [View.readAt_eq_ld, hf0, hf2, hf4, hfs0, hfs1]
    rfl
  isplitl [HS0]
  · iexists _; isplitr; · ipureintro; exact harg9.read_unread _
    iexact HS0
  iexists _; isplitr; · ipureintro; exact harg10.read_unread _
  iexact HS1

set_option maxHeartbeats 1600000 in
/-- A point without rows. -/
theorem run_empty (u : Vec F S1024x2048 .bf16) (d : Vec F S1024x1024 .bf16)
    (hc0 : ¬ fresh T0 T1 i) (h2 : ¬ k0_cond2 (rowsAt (F := F) T1 i) = 1#1) (h3 : k0_cond3 (rowsAt (F := F) T1 i) = 1#1) (K : PUnit → sProp 𝕄) :
    iprop(found c arg3 arg4 arg5 arg6 arg7 T0 T1 x0 x1 x2 x3 x4 ∗ (∃ d, owns (c : Thread nD τ) arg8 fullShare d)
        ∗ owns (c : Thread nD τ) arg9 fullShare u ∗ owns (c : Thread nD τ) arg10 fullShare d
        ∗ (iprop(found c arg3 arg4 arg5 arg6 arg7 T0 T1 x0 x1 x2 x3 x4
          ∗ owns (c : Thread nD τ) arg8 fullShare (k0_pay4 (F := F))
          ∗ owns (c : Thread nD τ) arg9 fullShare u ∗ owns (c : Thread nD τ) arg10 fullShare d) -∗ K ⟨⟩))
      ⊢ wp frame (wpE (defs₀ (F := F)) Variants.none c none) Set.univ
          (cc0_experts i tabE (Memref.isWhole_whole _) tabN (Memref.isWhole_whole _) arg3 harg3 arg4 harg4 arg5 harg5 arg6 harg6 arg7 harg7 arg8 harg8 arg9 harg9 arg10 harg10) K := by
  simp only [cc0_experts_eq_skeleton]; unfold cc0_experts_skel
  simp only [k0_part1_eq_skeleton, k0_part2_eq_skeleton]
  unfold found owns
  iintro ⟨⟨⟨%f0, %hf0, H0⟩, ⟨%f1, %hf1, H1⟩, ⟨%f2, %hf2, H2⟩, ⟨%f3, %hf3, H3⟩, ⟨%f4, %hf4, H4⟩, HT0, HT1⟩, ⟨%d5, %f5, -, H5⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hf4
  obtain rfl := harg9.eq_unread hfs0; obtain rfl := harg10.eq_unread hfs1
  have hT0 : tabE.IsWhole := Memref.isWhole_whole _
  have hT1 : tabN.IsWhole := Memref.isWhole_whole _
  sl_exec (disch := first | (exact hc0) | (exact h2) | (exact h3))
  sl_step
  iapply Hk
  isplitl [H0 H1 H2 H3 H4 HT0 HT1]
  · isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HT0]; · iexact HT0
    iexact HT1
  isplitl [H5]
  · iexists _; isplitr
    swap; · iexact H5
    ipureintro
    rw [View.read_writes_eq_canon _ _ _ (cover_block _), View.canon_unit_zero zeros2]
  isplitl [HS0]
  · iexists _; isplitr; · ipureintro; exact harg9.read_unread _
    iexact HS0
  iexists _; isplitr; · ipureintro; exact harg10.read_unread _
  iexact HS1

end

end Cert.Ffn
end
-- ==== Proof.FfnRun.lean ====
module

public import proofs.«01_k».proof.Proof.FfnBody
public import Idealize.ShloMosaic.Lib.WordCmp

/-!
# The run of the experts

The tables name the expert and the number of rows of every block.  Where every block names one of the 32 experts and no
block with rows follows a block of its expert without rows, the kept weights are those of the point's expert whenever the
point has rows.  The run of the whole launch follows, over any reading of the floats.
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Entry `n` of a table. -/
abbrev entry (n : ℕ) (h : n < 288) : S288.Idx := fun a => match a with | ⟨0, _⟩ => ⟨n, h⟩

/-- What the tables have to say: every block names an expert, and a block with rows that names the expert of the block
before it follows a block with rows. -/
structure Ordered (E N : S288.Idx → BitVec 32) : Prop where
  named : ∀ j, (E j).toNat < 32
  follows : ∀ (n : ℕ) (h : n + 1 < 288), E (entry (n + 1) h) = E (entry n (by omega)) →
    k0_cond2 (N (entry (n + 1) h)) = 1#1 → k0_cond2 (N (entry n (by omega))) = 1#1

/-- A number of rows is positive or it is not. -/
theorem cond_rows (v : BitVec 32) : k0_cond3 v = 1#1 ↔ ¬ k0_cond2 v = 1#1 := by
  unfold k0_cond2 k0_cond3
  dsimp only
  generalize Scalar.cmpi .sgt v 0#32 = x
  clear v
  revert x
  decide

variable (m : (ℓ : Loc nD τ sig) → Buf (Elt F) ℓ) (ρ : Dev nD → PrngReg)

/-- The two tables at launch. -/
def tE : S288.Idx → BitVec 32 := m (((0 : Dev nD) : Thread nD τ).loc main_arg0)
def tN : S288.Idx → BitVec 32 := m (((0 : Dev nD) : Thread nD τ).loc main_arg1)

/-- Both, as the region reads them. -/
def tables : pre0.Contents (Elt F) := fun k => m (((0 : Dev nD) : Thread nD τ).loc (pre0.ref k))

variable (ho : Ordered (tE m) (tN m))

include ho in
/-- Every block of the weights is inside its array. -/
theorem tables_ok : ok0 (tables m) := by
  refine ⟨fun i => ⟨fun a => ?_, .inl rfl⟩, fun i => ⟨fun a => ?_, .inl rfl⟩, fun i => ⟨fun a => ?_, .inl rfl⟩, fun i => ⟨fun a => ?_, .inl rfl⟩⟩ <;>
  · have hn := ho.named ((Rect.unit (s := S288) (k0_off1 i) S1.size (k0_off1_inb i)).emb (Shape.Idx.first (numel1_S1.symm ▸ Nat.one_pos)))
    match a with
    | ⟨0, _⟩ =>
      refine (Nat.mul_one _).trans_le ?_
      exact hn
    | ⟨1, _⟩ => exact le_of_eq ((congrArg (· * _) (Nat.zero_add 1)).trans (Nat.one_mul _))
    | ⟨2, _⟩ => exact le_of_eq ((congrArg (· * _) (Nat.zero_add 1)).trans (Nat.one_mul _))

/-- The tables, admitted; the pipeline at them. -/
def adm : (pcfg0 (F := F)).Adm := ⟨tables m, tables_ok m ho⟩
abbrev cfgT : Pipeline.Cfg sig Λ₀ := cfg0 (F := F) (adm m ho)

theorem points (t : Fin (cfgT m ho).N) : t.val < 288 := lt_of_lt_of_eq t.isLt (show (cfgT m ho).N = 288 from N_0)

/-- A point's coordinates, and its buffers. -/
abbrev crd (t : Fin (cfgT m ho).N) : grid0.Coords := (cfgT m ho).grid.coords t
abbrev b0 (t : Fin (cfgT m ho).N) : Memref sig .tc .vmem S512x512 .i32 := spec0_0.stage ((cfgT m ho).slots t (0 : Fin 6))
abbrev b1 (t : Fin (cfgT m ho).N) : Memref sig .tc .vmem S1x1024x2048 .f32 := spec0_1.stage ((cfgT m ho).slots t (1 : Fin 6))
abbrev b2 (t : Fin (cfgT m ho).N) : Memref sig .tc .vmem S1x1x2048 .f32 := spec0_2.stage ((cfgT m ho).slots t (2 : Fin 6))
abbrev b3 (t : Fin (cfgT m ho).N) : Memref sig .tc .vmem S1x1024x1024 .f32 := spec0_3.stage ((cfgT m ho).slots t (3 : Fin 6))
abbrev b4 (t : Fin (cfgT m ho).N) : Memref sig .tc .vmem S1x1x1024 .f32 := spec0_4.stage ((cfgT m ho).slots t (4 : Fin 6))
abbrev b5 (t : Fin (cfgT m ho).N) : Memref sig .tc .vmem S512x1024 .bf16 := spec0_5.stage ((cfgT m ho).slots t (5 : Fin 6))
abbrev kU : Memref sig .tc .vmem S1024x2048 .bf16 := Memref.whole cc0_scratch0
abbrev kD : Memref sig .tc .vmem S1024x1024 .bf16 := Memref.whole cc0_scratch1

/-- The block of array `w` at point `t`. -/
def blk (c : Dev nD) (w : Fin (cfgT m ho).W) (t : Fin (cfgT m ho).N) : (((cfgT m ho).win w).xblock (crd m ho t)).Idx → Elt F ((cfgT m ho).win w).elt :=
  (((cfgT m ho).win w).blk t).view.read (Elt F) (m (((cfgT m ho).win w).arr.view.loc (c : Thread nD τ)))

/-- Point `t` has rows. -/
abbrev hasRows (n : ℕ) (h : n < 288) : Prop := k0_cond2 (tN m (entry n h)) = 1#1

/-- The block point `t` leaves. -/
def leaves (c : Dev nD) (t : Fin (cfgT m ho).N) : FVec F S512x1024 .bf16 :=
  if hasRows m t.val (points m ho t) then
    blockOf (tN m (entry t.val (points m ho t))) (blk m ho c 0 t) (blk m ho c 2 t) (blk m ho c 4 t) (keptUp (blk m ho c 1 t)) (keptDown (blk m ho c 3 t))
  else k0_pay4 (F := F)

/-- What the kept weights are after position `n`: if point `n` has rows, those of its expert. -/
def keptAt (c : Dev nD) (n : ℕ) (h : n < (cfgT m ho).N) (u : Vec F S1024x2048 .bf16) (d : Vec F S1024x1024 .bf16) : Prop :=
  hasRows m n (points m ho ⟨n, h⟩) → u = keptUp (blk m ho c 1 ⟨n, h⟩) ∧ d = keptDown (blk m ho c 3 ⟨n, h⟩)

/-- Between points: the kept weights, the tables and the generator's register. -/
def held (c : Dev nD) (n : ℕ) (h : n ≤ (cfgT m ho).N) : sProp 𝕄 :=
  iprop((∃ u d, ⌜∀ k (hk : n = k + 1), keptAt m ho c k (by omega) u d⌝ ∗ owns (c : Thread nD τ) kU fullShare u ∗ owns (c : Thread nD τ) kD fullShare d)
    ∗ (tabE.view.loc (c : Thread nD τ) ↦{fullShare.right} (tE m : S288.Idx → Elt F .i32)) ∗ (tabN.view.loc (c : Thread nD τ) ↦{fullShare.right} (tN m : S288.Idx → Elt F .i32))
    ∗ (∃ r, prngReg c r))

/-- The proof data of the pipeline on core `c`. -/
def dats (_ : Fin 1) (c : Dev nD) : Dat τ (Elt F) Unit ℕ (UR sig nD τ) ℕ (cfgT m ho) c where
  A w := m (((cfgT m ho).win w).arr.view.loc (c : Thread nD τ))
  after w t := match w with
    | ⟨0, _⟩ => blk m ho c 0 t
    | ⟨1, _⟩ => blk m ho c 1 t
    | ⟨2, _⟩ => blk m ho c 2 t
    | ⟨3, _⟩ => blk m ho c 3 t
    | ⟨4, _⟩ => blk m ho c 4 t
    | ⟨5, _⟩ => leaves m ho c t
  Φ t := held m ho c t.val (Nat.le_of_lt_succ t.isLt)
  q _ := fullShare
  owed _ := 0

theorem after_0 (c : Dev nD) (t : Fin (cfgT m ho).N) : (dats m ho 0 c).after (0 : Fin 6) t = blk m ho c 0 t := rfl
theorem after_1 (c : Dev nD) (t : Fin (cfgT m ho).N) : (dats m ho 0 c).after (1 : Fin 6) t = blk m ho c 1 t := rfl
theorem after_2 (c : Dev nD) (t : Fin (cfgT m ho).N) : (dats m ho 0 c).after (2 : Fin 6) t = blk m ho c 2 t := rfl
theorem after_3 (c : Dev nD) (t : Fin (cfgT m ho).N) : (dats m ho 0 c).after (3 : Fin 6) t = blk m ho c 3 t := rfl
theorem after_4 (c : Dev nD) (t : Fin (cfgT m ho).N) : (dats m ho 0 c).after (4 : Fin 6) t = blk m ho c 4 t := rfl
theorem after_5 (c : Dev nD) (t : Fin (cfgT m ho).N) : (dats m ho 0 c).after (5 : Fin 6) t = leaves m ho c t := rfl

theorem before_0 (c : Dev nD) (t : Fin (cfgT m ho).N) (d) : (dats m ho 0 c).before (0 : Fin 6) t d = blk m ho c 0 t :=
  ((dats m ho 0 c).before_in_eq_fetched 0 rfl (fun _ => rfl) (fun _ _ _ => rfl) (fun t => rfl) t d).trans rfl
theorem before_1 (c : Dev nD) (t : Fin (cfgT m ho).N) (d) : (dats m ho 0 c).before (1 : Fin 6) t d = blk m ho c 1 t :=
  ((dats m ho 0 c).before_in_eq_fetched 1 rfl (fun _ => rfl) (fun _ _ _ => rfl) (fun t => rfl) t d).trans rfl
theorem before_2 (c : Dev nD) (t : Fin (cfgT m ho).N) (d) : (dats m ho 0 c).before (2 : Fin 6) t d = blk m ho c 2 t :=
  ((dats m ho 0 c).before_in_eq_fetched 2 rfl (fun _ => rfl) (fun _ _ _ => rfl) (fun t => rfl) t d).trans rfl
theorem before_3 (c : Dev nD) (t : Fin (cfgT m ho).N) (d) : (dats m ho 0 c).before (3 : Fin 6) t d = blk m ho c 3 t :=
  ((dats m ho 0 c).before_in_eq_fetched 3 rfl (fun _ => rfl) (fun _ _ _ => rfl) (fun t => rfl) t d).trans rfl
theorem before_4 (c : Dev nD) (t : Fin (cfgT m ho).N) (d) : (dats m ho 0 c).before (4 : Fin 6) t d = blk m ho c 4 t :=
  ((dats m ho 0 c).before_in_eq_fetched 4 rfl (fun _ => rfl) (fun _ _ _ => rfl) (fun t => rfl) t d).trans rfl

/-- Where the words are read. -/
theorem offsets : ∀ t : Fin grid0.N, k0_off1 (grid0.coords t) 0 = t.val ∧ k0_off2 (grid0.coords t) 0 = t.val - 1
    ∧ (Scalar.cmpi .eq (BitVec.ofNat 32 (grid0.coords t 0).val) 0#32 = if t.val = 0 then 1#1 else 0#1) := by decide +kernel

theorem rows_word (t : Fin (cfgT m ho).N) : rowsAt (F := F) (tN m) (crd m ho t) = tN m (entry t.val (points m ho t)) := by
  refine congrArg (tN m) (funext fun a => Fin.ext ?_)
  match a with
  | ⟨0, _⟩ => exact (congrArg (· + 1 * 0) (offsets t).1)
theorem expert_word (t : Fin (cfgT m ho).N) : expertAt (F := F) (tE m) (crd m ho t) = tE m (entry t.val (points m ho t)) := by
  refine congrArg (tE m) (funext fun a => Fin.ext ?_)
  match a with
  | ⟨0, _⟩ => exact (congrArg (· + 1 * 0) (offsets t).1)
theorem before_word (t : Fin (cfgT m ho).N) : expertBefore (F := F) (tE m) (crd m ho t) = tE m (entry (t.val - 1) (by have := points m ho t; omega)) := by
  refine congrArg (tE m) (funext fun a => Fin.ext ?_)
  match a with
  | ⟨0, _⟩ => exact (congrArg (· + 1 * 0) (offsets t).2.1)

/-- A point with rows whose expert is not new follows a point of the same expert. -/
theorem not_fresh (t : Fin (cfgT m ho).N) (h : ¬ fresh (F := F) (tE m) (tN m) (crd m ho t)) (hr : hasRows m t.val (points m ho t)) :
    t.val ≠ 0 ∧ tE m (entry t.val (points m ho t)) = tE m (entry (t.val - 1) (by have := points m ho t; omega)) := by
  unfold fresh at h
  rw [rows_word, expert_word, before_word, (offsets t).2.2] at h
  unfold hasRows k0_cond2 at hr
  simp only at hr
  generalize Scalar.cmpi .sgt (tN m (entry t.val (points m ho t))) 0#32 = x at h hr
  by_cases hz : t.val = 0
  · rw [if_pos hz] at h
    generalize Scalar.cmpi .ne (tE m _) (tE m _) = y at h
    exact absurd hr (by revert h; clear * -; revert x y; decide)
  · rw [if_neg hz] at h
    refine ⟨hz, ?_⟩
    by_contra hne
    have hy : Scalar.cmpi .ne (tE m (entry t.val (points m ho t))) (tE m (entry (t.val - 1) (by have := points m ho t; omega))) = 1#1 := by
      refine (WordCmp.cmpi_ne_eq _ _).trans ?_
      exact congrArg BitVec.ofBool (decide_eq_true hne)
    rw [hy] at h
    exact absurd hr (by revert h; clear * -; revert x; decide)

/-- A point whose expert is new has rows. -/
theorem fresh_rows (t : Fin (cfgT m ho).N) (h : fresh (F := F) (tE m) (tN m) (crd m ho t)) : hasRows m t.val (points m ho t) := by
  unfold fresh at h
  rw [rows_word] at h
  unfold hasRows k0_cond2
  simp only
  generalize Scalar.cmpi .sgt (tN m (entry t.val (points m ho t))) 0#32 = x at h ⊢
  generalize Scalar.ori _ _ = y at h
  revert x y
  decide

/-- The blocks of the weights are those of the word's expert. -/
theorem index_1 (t : Fin (cfgT m ho).N) : ix0 (tables m) 1 (crd m ho t) = ![(tE m (entry t.val (points m ho t))).toNat, 0, 0] := by
  rw [← expert_word]; rfl
theorem index_2 (t : Fin (cfgT m ho).N) : ix0 (tables m) 2 (crd m ho t) = ![(tE m (entry t.val (points m ho t))).toNat, 0, 0] := by
  rw [← expert_word]; rfl
theorem index_3 (t : Fin (cfgT m ho).N) : ix0 (tables m) 3 (crd m ho t) = ![(tE m (entry t.val (points m ho t))).toNat, 0, 0] := by
  rw [← expert_word]; rfl
theorem index_4 (t : Fin (cfgT m ho).N) : ix0 (tables m) 4 (crd m ho t) = ![(tE m (entry t.val (points m ho t))).toNat, 0, 0] := by
  rw [← expert_word]; rfl

/-- Two points of one expert read the same blocks of the weights. -/
theorem same_up (c : Dev nD) (t t' : Fin (cfgT m ho).N) (h : tE m (entry t.val (points m ho t)) = tE m (entry t'.val (points m ho t'))) :
    blk m ho c 1 t = blk m ho c 1 t' := by
  have e : ix0 (tables m) 1 (crd m ho t) = ix0 (tables m) 1 (crd m ho t') := by rw [index_1, index_1, h]
  funext y
  refine congrArg (m (((cfgT m ho).win 1).arr.view.loc (c : Thread nD τ))) (funext fun a => Fin.ext ?_)
  show ix0 (tables m) 1 (crd m ho t) a * _ + 1 * (y a).val = ix0 (tables m) 1 (crd m ho t') a * _ + 1 * (y a).val
  rw [e]
theorem same_down (c : Dev nD) (t t' : Fin (cfgT m ho).N) (h : tE m (entry t.val (points m ho t)) = tE m (entry t'.val (points m ho t'))) :
    blk m ho c 3 t = blk m ho c 3 t' := by
  have e : ix0 (tables m) 3 (crd m ho t) = ix0 (tables m) 3 (crd m ho t') := by rw [index_3, index_3, h]
  funext y
  refine congrArg (m (((cfgT m ho).win 3).arr.view.loc (c : Thread nD τ))) (funext fun a => Fin.ext ?_)
  show ix0 (tables m) 3 (crd m ho t) a * _ + 1 * (y a).val = ix0 (tables m) 3 (crd m ho t') a * _ + 1 * (y a).val
  rw [e]

/-- At a point with rows whose expert is not new, the kept weights are those of its expert. -/
theorem same_kept (c : Dev nD) (t : Fin (cfgT m ho).N) (hf : ¬ fresh (F := F) (tE m) (tN m) (crd m ho t)) (hr : hasRows m t.val (points m ho t))
    (u : Vec F S1024x2048 .bf16) (d : Vec F S1024x1024 .bf16) (hk : ∀ k (hk : t.val = k + 1), keptAt m ho c k (by have := t.isLt; omega) u d) :
    u = keptUp (blk m ho c 1 t) ∧ d = keptDown (blk m ho c 3 t) := by
  obtain ⟨hz, he⟩ := not_fresh m ho t hf hr
  obtain ⟨n, hn⟩ := t
  cases n with
  | zero => exact absurd rfl hz
  | succ k =>
    have hp := ho.follows k (points m ho ⟨k + 1, hn⟩) he hr
    obtain ⟨hu, hd⟩ := hk k rfl hp
    rw [same_up m ho c ⟨k + 1, hn⟩ ⟨k, by omega⟩ he, same_down m ho c ⟨k + 1, hn⟩ ⟨k, by omega⟩ he]
    exact ⟨hu, hd⟩

set_option maxHeartbeats 1600000 in
/-- The body at a point: it leaves the point's block, and the kept weights of the point's expert if the point has rows. -/
theorem body_point (c : Dev nD) (t : Fin (cfgT m ho).N) (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (u : Vec F S1024x2048 .bf16) (d : Vec F S1024x1024 .bf16) (hk : ∀ k (hk : t.val = k + 1), keptAt m ho c k (by have := t.isLt; omega) u d) (K : PUnit → sProp 𝕄) :
    iprop(found c arg3 arg4 arg5 arg6 arg7 (tE m) (tN m) (blk m ho c 0 t) (blk m ho c 1 t) (blk m ho c 2 t) (blk m ho c 3 t) (blk m ho c 4 t)
        ∗ (∃ d, owns (c : Thread nD τ) arg8 fullShare d) ∗ owns (c : Thread nD τ) kU fullShare u ∗ owns (c : Thread nD τ) kD fullShare d
        ∗ (iprop(found c arg3 arg4 arg5 arg6 arg7 (tE m) (tN m) (blk m ho c 0 t) (blk m ho c 1 t) (blk m ho c 2 t) (blk m ho c 3 t) (blk m ho c 4 t)
          ∗ owns (c : Thread nD τ) arg8 fullShare (leaves m ho c t)
          ∗ (∃ u d, ⌜keptAt m ho c t.val t.isLt u d⌝ ∗ owns (c : Thread nD τ) kU fullShare u ∗ owns (c : Thread nD τ) kD fullShare d)) -∗ K ⟨⟩))
      ⊢ wp frame (wpE (defs₀ (F := F)) Variants.none c none) Set.univ
          (cc0_experts (crd m ho t) tabE (Memref.isWhole_whole _) tabN (Memref.isWhole_whole _) arg3 harg3 arg4 harg4 arg5 harg5 arg6 harg6 arg7 harg7 arg8 harg8
            kU (Memref.isWhole_whole _) kD (Memref.isWhole_whole _)) K := by
  by_cases hf : fresh (F := F) (tE m) (tN m) (crd m ho t)
  · have hr := fresh_rows m ho t hf
    have h2 : k0_cond2 (rowsAt (F := F) (tN m) (crd m ho t)) = 1#1 := by rw [rows_word]; exact hr
    have h3 : ¬ k0_cond3 (rowsAt (F := F) (tN m) (crd m ho t)) = 1#1 := fun e => (cond_rows _).mp e h2
    rw [leaves, if_pos hr, ← rows_word]
    iintro ⟨Hin, Ho, HU, HD, Hk⟩
    iapply (run_fresh c (crd m ho t) arg3 harg3 arg4 harg4 arg5 harg5 arg6 harg6 arg7 harg7 arg8 harg8 kU (Memref.isWhole_whole _) kD (Memref.isWhole_whole _)
      (tE m) (tN m) (blk m ho c 0 t) (blk m ho c 1 t) (blk m ho c 2 t) (blk m ho c 3 t) (blk m ho c 4 t) hf h2 h3 K)
    isplitl [Hin]; · iexact Hin
    isplitl [Ho]; · iexact Ho
    isplitl [HU]; · iexists _; iexact HU
    isplitl [HD]; · iexists _; iexact HD
    iintro ⟨Hin, Ho, HU, HD⟩
    iapply Hk
    isplitl [Hin]; · iexact Hin
    isplitl [Ho]; · iexact Ho
    iexists _; iexists _
    isplitr; · ipureintro; exact fun _ => ⟨rfl, rfl⟩
    isplitl [HU]; · iexact HU
    iexact HD
  · by_cases hr : hasRows m t.val (points m ho t)
    · have h2 : k0_cond2 (rowsAt (F := F) (tN m) (crd m ho t)) = 1#1 := by rw [rows_word]; exact hr
      have h3 : ¬ k0_cond3 (rowsAt (F := F) (tN m) (crd m ho t)) = 1#1 := fun e => (cond_rows _).mp e h2
      obtain ⟨rfl, rfl⟩ := same_kept m ho c t hf hr u d hk
      rw [leaves, if_pos hr, ← rows_word]
      iintro ⟨Hin, Ho, HU, HD, Hk⟩
      iapply (run_kept c (crd m ho t) arg3 harg3 arg4 harg4 arg5 harg5 arg6 harg6 arg7 harg7 arg8 harg8 kU (Memref.isWhole_whole _) kD (Memref.isWhole_whole _)
        (tE m) (tN m) (blk m ho c 0 t) (blk m ho c 1 t) (blk m ho c 2 t) (blk m ho c 3 t) (blk m ho c 4 t) _ _ hf h2 h3 K)
      isplitl [Hin]; · iexact Hin
      isplitl [Ho]; · iexact Ho
      isplitl [HU]; · iexact HU
      isplitl [HD]; · iexact HD
      iintro ⟨Hin, Ho, HU, HD⟩
      iapply Hk
      isplitl [Hin]; · iexact Hin
      isplitl [Ho]; · iexact Ho
      iexists _; iexists _
      isplitr; · ipureintro; exact fun _ => ⟨rfl, rfl⟩
      isplitl [HU]; · iexact HU
      iexact HD
    · have h2 : ¬ k0_cond2 (rowsAt (F := F) (tN m) (crd m ho t)) = 1#1 := by rw [rows_word]; exact hr
      have h3 : k0_cond3 (rowsAt (F := F) (tN m) (crd m ho t)) = 1#1 := (cond_rows _).mpr h2
      rw [leaves, if_neg hr]
      iintro ⟨Hin, Ho, HU, HD, Hk⟩
      iapply (run_empty c (crd m ho t) arg3 harg3 arg4 harg4 arg5 harg5 arg6 harg6 arg7 harg7 arg8 harg8 kU (Memref.isWhole_whole _) kD (Memref.isWhole_whole _)
        (tE m) (tN m) (blk m ho c 0 t) (blk m ho c 1 t) (blk m ho c 2 t) (blk m ho c 3 t) (blk m ho c 4 t) u d hf h2 h3 K)
      isplitl [Hin]; · iexact Hin
      isplitl [Ho]; · iexact Ho
      isplitl [HU]; · iexact HU
      isplitl [HD]; · iexact HD
      iintro ⟨Hin, Ho, HU, HD⟩
      iapply Hk
      isplitl [Hin]; · iexact Hin
      isplitl [Ho]; · iexact Ho
      iexists u; iexists d
      isplitr; · ipureintro; exact fun e => absurd e hr
      isplitl [HU]; · iexact HU
      iexact HD

/-- No point leaves its block to the next one. -/
theorem idle_5 (t : Fin (cfgT m ho).N) : (cfgT m ho).idle (5 : Fin 6) ((cfgT m ho).grid.coords t) = false := by
  show (!(k0_cond2 ((tables m).atD 1 (k0_off1 (crd m ho t))) == 1#1) && !(k0_cond3 ((tables m).atD 1 (k0_off1 (crd m ho t))) == 1#1)) = false
  by_cases h : k0_cond2 ((tables m).atD 1 (k0_off1 (crd m ho t))) = 1#1
  · rw [h]; rfl
  · rw [(cond_rows _).mpr h]
    exact Bool.and_false _

/-- The buffers a point is handed. -/
def handed (c : Dev nD) (t : Fin (cfgT m ho).N) : sProp 𝕄 :=
  iprop((dats m ho 0 c).Φ t.castSucc ∗ (dats m ho 0 c).owesAt () t.castSucc
    ∗ (∃ d, owns (c : Thread nD τ) (b0 m ho t) fullShare ((dats m ho 0 c).before (0 : Fin 6) t d))
    ∗ (∃ d, owns (c : Thread nD τ) (b1 m ho t) fullShare ((dats m ho 0 c).before (1 : Fin 6) t d))
    ∗ (∃ d, owns (c : Thread nD τ) (b2 m ho t) fullShare ((dats m ho 0 c).before (2 : Fin 6) t d))
    ∗ (∃ d, owns (c : Thread nD τ) (b3 m ho t) fullShare ((dats m ho 0 c).before (3 : Fin 6) t d))
    ∗ (∃ d, owns (c : Thread nD τ) (b4 m ho t) fullShare ((dats m ho 0 c).before (4 : Fin 6) t d))
    ∗ (∃ d, owns (c : Thread nD τ) (b5 m ho t) fullShare ((dats m ho 0 c).before (5 : Fin 6) t d)))

/-- The buffers it gives back. -/
def given (c : Dev nD) (t : Fin (cfgT m ho).N) : sProp 𝕄 :=
  iprop((dats m ho 0 c).Φ t.succ ∗ (dats m ho 0 c).owesAt () t.succ
    ∗ owns (c : Thread nD τ) (b0 m ho t) fullShare ((dats m ho 0 c).after (0 : Fin 6) t)
    ∗ owns (c : Thread nD τ) (b1 m ho t) fullShare ((dats m ho 0 c).after (1 : Fin 6) t)
    ∗ owns (c : Thread nD τ) (b2 m ho t) fullShare ((dats m ho 0 c).after (2 : Fin 6) t)
    ∗ owns (c : Thread nD τ) (b3 m ho t) fullShare ((dats m ho 0 c).after (3 : Fin 6) t)
    ∗ owns (c : Thread nD τ) (b4 m ho t) fullShare ((dats m ho 0 c).after (4 : Fin 6) t)
    ∗ owns (c : Thread nD τ) (b5 m ho t) fullShare ((dats m ho 0 c).after (5 : Fin 6) t))

/-- The body at a point, as the pipeline calls it. -/
abbrev bodyT (t : Fin (cfgT m ho).N) :=
  cc0_experts (F := F) (crd m ho t) tabE (Memref.isWhole_whole _) tabN (Memref.isWhole_whole _)
    (b0 m ho t) (hstage0_0 (((cfgT m ho).slots t (0 : Fin 6)).cast nbuf0_0)) (b1 m ho t) (hstage0_1 (((cfgT m ho).slots t (1 : Fin 6)).cast nbuf0_1))
    (b2 m ho t) (hstage0_2 (((cfgT m ho).slots t (2 : Fin 6)).cast nbuf0_2)) (b3 m ho t) (hstage0_3 (((cfgT m ho).slots t (3 : Fin 6)).cast nbuf0_3))
    (b4 m ho t) (hstage0_4 (((cfgT m ho).slots t (4 : Fin 6)).cast nbuf0_4)) (b5 m ho t) (hstage0_5 (((cfgT m ho).slots t (5 : Fin 6)).cast nbuf0_5))
    kU (Memref.isWhole_whole _) kD (Memref.isWhole_whole _)

set_option maxHeartbeats 1600000 in
theorem body_at (c : Dev nD) (t : Fin (cfgT m ho).N) :
    handed m ho c t ⊢ wp frame (wpE (defs₀ (F := F)) Variants.none c none) Set.univ (bodyT m ho t) (fun _ => given m ho c t) := by
  unfold handed given
  simp only [before_0, before_1, before_2, before_3, before_4]
  rw [show (dats m ho 0 c).owesAt () t.succ = (dats m ho 0 c).owesAt () t.castSucc from rfl, after_0, after_1, after_2, after_3, after_4, after_5,
    show (dats m ho 0 c).Φ t.succ = held m ho c (t.val + 1) t.isLt from rfl, show (dats m ho 0 c).Φ t.castSucc = held m ho c t.val (Nat.le_of_lt t.isLt) from rfl]
  unfold held
  iintro ⟨⟨⟨%u, %d, %hk, HU, HD⟩, HE, HN, Hg⟩, Ho, ⟨%d0, H0⟩, ⟨%d1, H1⟩, ⟨%d2, H2⟩, ⟨%d3, H3⟩, ⟨%d4, H4⟩, ⟨%d5, H5⟩⟩
  iapply (body_point m ho c t (b0 m ho t) (hstage0_0 (((cfgT m ho).slots t (0 : Fin 6)).cast nbuf0_0)) (b1 m ho t) (hstage0_1 (((cfgT m ho).slots t (1 : Fin 6)).cast nbuf0_1))
    (b2 m ho t) (hstage0_2 (((cfgT m ho).slots t (2 : Fin 6)).cast nbuf0_2)) (b3 m ho t) (hstage0_3 (((cfgT m ho).slots t (3 : Fin 6)).cast nbuf0_3))
    (b4 m ho t) (hstage0_4 (((cfgT m ho).slots t (4 : Fin 6)).cast nbuf0_4)) (b5 m ho t) (hstage0_5 (((cfgT m ho).slots t (5 : Fin 6)).cast nbuf0_5)) u d hk _)
  unfold found
  isplitl [H0 H1 H2 H3 H4 HE HN]
  · isplitl [H0]; · iexact H0
    isplitl [H1]; · iexact H1
    isplitl [H2]; · iexact H2
    isplitl [H3]; · iexact H3
    isplitl [H4]; · iexact H4
    isplitl [HE]; · iexact HE
    iexact HN
  isplitl [H5]; · iexists _; iexact H5
  isplitl [HU]; · iexact HU
  isplitl [HD]; · iexact HD
  iintro ⟨⟨H0, H1, H2, H3, H4, HE, HN⟩, H5, ⟨%u', %d', %hk', HU, HD⟩⟩
  isplitl [HU HD HE HN Hg]
  · isplitl [HU HD]
    · iexists u'; iexists d'
      isplitr
      · ipureintro
        intro k e
        obtain rfl : t.val = k := by omega
        exact hk'
      isplitl [HU]; · iexact HU
      iexact HD
    isplitl [HE]; · iexact HE
    isplitl [HN]; · iexact HN
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_row (t : Fin (cfgT m ho).N) : defs₀ (F := F) .tc (cfgT m ho).body ((cfgT m ho).bodyArgs t ((cfgT m ho).slots t)) = bodyT m ho t := by
  unfold defs₀; rw [Defs.onTc_tc]

theorem body_obligation (c : Dev nD) : BodyObligation (dats (F := F) m ho 0 c) (defs₀ (F := F)) Variants.none () Set.univ := fun t => by
  rw [bigSep_W0, bigSep_W0, body_row, idle_5]
  exact triple_restated (body_at m ho c t) rfl .rfl fun _ => .rfl

/-- What the launch hands the region: the two kept buffers at anything, and the generator's register. -/
theorem handed_eq (c : Dev nD) :
    (Pipeline.ΦA spec0 c : sProp 𝕄)
      = iprop(iprop((∃ d, owns (c : Thread nD τ) kU fullShare d) ∗ (∃ d, owns (c : Thread nD τ) kD fullShare d)) ∗ (∃ r, prngReg c r)) := by
  unfold Pipeline.ΦA; rw [scopedRest0_eq]; simp only [kU, kD, owns_whole]; rfl

/-- The tables the launch hands it. -/
theorem tables_eq (c : Dev nD) :
    (Pipeline.ΦT pre0 (tables m) c : sProp 𝕄)
      = iprop((tabE.view.loc (c : Thread nD τ) ↦{fullShare.right} (tE m : S288.Idx → Elt F .i32)) ∗ (tabN.view.loc (c : Thread nD τ) ↦{fullShare.right} (tN m : S288.Idx → Elt F .i32))) := by
  unfold Pipeline.ΦT Pipeline.prefHeld
  rw [show (Finset.univ : Finset (Fin 2)) = insert (0 : Fin 2) {(1 : Fin 2)} from by decide, bigSep_insert (by decide), bigSep_singleton]
  rfl

theorem enter (c : Dev nD) : iprop(Pipeline.ΦA spec0 c ∗ Pipeline.ΦT pre0 (adm m ho).1 c) ⊢ (dats m ho 0 c).Φ 0 := by
  rw [show (dats m ho 0 c).Φ 0 = held m ho c 0 (Nat.zero_le _) from rfl, handed_eq, show (adm m ho).1 = tables m from rfl, tables_eq]
  unfold held
  iintro ⟨⟨⟨⟨%u, HU⟩, ⟨%d, HD⟩⟩, Hg⟩, HE, HN⟩
  isplitl [HU HD]
  · iexists u; iexists d
    isplitr; · ipureintro; exact fun k e => absurd e (by omega)
    isplitl [HU]; · iexact HU
    iexact HD
  isplitl [HE]; · iexact HE
  isplitl [HN]; · iexact HN
  iexact Hg

theorem leave (c : Dev nD) : (dats m ho 0 c).Φ (Fin.last (cfgT m ho).N) ⊢ Pipeline.ΦA spec0 c := by
  rw [show (dats m ho 0 c).Φ (Fin.last (cfgT m ho).N) = held m ho c (cfgT m ho).N le_rfl from rfl, handed_eq]
  unfold held
  iintro ⟨⟨%u, %d, -, HU, HD⟩, -, -, Hg⟩
  isplitl [HU HD]
  · isplitl [HU]; · iexists u; iexact HU
    iexists d; iexact HD
  iexact Hg

/-- The arrays at launch. -/
def V (c : Dev nD) (b : Ref sig .tc) : Buf (Elt F) ((c : Thread nD τ).loc b) := m ((c.tc : Thread nD τ).loc b)

theorem only_region (c : Dev nD) : main (F := F) c = .op (.customCall (Pipeline.entry 0) ()) fun _ => .ret ⟨⟩ := rfl

set_option backward.isDefEq.respectTransparency.types false in
/-- The run of the launch, every counter at zero at the end. -/
theorem run_quiescent : θ_run defs (onTc (τ := τ) (main (F := F))) (s₀ m ρ)
    (fun r => (Pipeline.FramePost (Pipeline.pin pcfgs fun _ => adm m ho) (dats m ho) 0 (V m)) r ∧ r.2.sem = fun _ => 0) :=
  Pipeline.θ_run_frameP_track (Q' := _) pcfgs (fun _ => adm m ho) (dats m ho) (0 : Fin 1) launch0 defs₀ Variants.none m ρ main
    (hbody := fun c => (body_obligation m ho c).loose) (hshare := fun c => (dats m ho 0 c).share_full fun _ => rfl)
    (howed := fun _ _ => rfl) (V := V m) (hmain := Pipeline.hmainP_region (pcs := pcfgs) (p := 0) (defs₀ := defs₀) (𝒱₀ := Variants.none) m main only_region) (hA := fun _ _ => rfl)
    (hpf := fun c k => by rw [Subsingleton.elim c 0]; rfl) (hin := enter m ho) (hout := leave m ho)

theorem rest_0 : main_arg0 ∈ Pipeline.restRefs sig spec0 := Pipeline.mem_restRefs_of main_arg0 (by decide) (by decide)
theorem rest_1 : main_arg1 ∈ Pipeline.restRefs sig spec0 := Pipeline.mem_restRefs_of main_arg1 (by decide) (by decide)

theorem in_0 (c : Dev nD) : (dats m ho 0 c).arrAt (0 : Fin 6) (cfgT m ho).N = m ((c.tc : Thread nD τ).loc main_arg2) := (dats m ho 0 c).arrAt_in (0 : Fin 6) rfl _
theorem in_1 (c : Dev nD) : (dats m ho 0 c).arrAt (1 : Fin 6) (cfgT m ho).N = m ((c.tc : Thread nD τ).loc main_arg3) := (dats m ho 0 c).arrAt_in (1 : Fin 6) rfl _
theorem in_2 (c : Dev nD) : (dats m ho 0 c).arrAt (2 : Fin 6) (cfgT m ho).N = m ((c.tc : Thread nD τ).loc main_arg4) := (dats m ho 0 c).arrAt_in (2 : Fin 6) rfl _
theorem in_3 (c : Dev nD) : (dats m ho 0 c).arrAt (3 : Fin 6) (cfgT m ho).N = m ((c.tc : Thread nD τ).loc main_arg5) := (dats m ho 0 c).arrAt_in (3 : Fin 6) rfl _
theorem in_4 (c : Dev nD) : (dats m ho 0 c).arrAt (4 : Fin 6) (cfgT m ho).N = m ((c.tc : Thread nD τ).loc main_arg6) := (dats m ho 0 c).arrAt_in (4 : Fin 6) rfl _

include ho in
/-- The arguments end unchanged and every counter is zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1 c).2 main_arg0 rest_0,
     (h.1 c).2 main_arg1 rest_1,
     ((h.1 c).1 (0 : Fin 6)).trans (in_0 m ho c),
     ((h.1 c).1 (1 : Fin 6)).trans (in_1 m ho c),
     ((h.1 c).1 (2 : Fin 6)).trans (in_2 m ho c),
     ((h.1 c).1 (3 : Fin 6)).trans (in_3 m ho c),
     ((h.1 c).1 (4 : Fin 6)).trans (in_4 m ho c)⟩, h.2⟩) (run_quiescent m ρ ho)

end Cert.Ffn
end
-- ==== Proof.FfnPre.lean ====
module

public import proofs.«01_k».proof.Proof.FfnRun
public import proofs.«01_k».proof.Proof.Gen.Pre_experts_named
public import proofs.«01_k».proof.Defs
public import Idealize.ShloMosaic.Lib.ReduceAll
public import Idealize.ShloMosaic.Lib.Pointwise

/-!
# What the precondition of the experts says

Every block names one of the 32 experts, and no block with rows follows a block of its expert without rows.
-/

@[expose] public section

set_option maxRecDepth 16384

noncomputable section

namespace Cert.Ffn

open Idealize.ShloMosaic

/-- A word at least zero and below 32, read signed, is below 32. -/
theorem small_word (e : BitVec 32) (h : IntOp.andi (IntOp.cmpi .sge e 0#32) (IntOp.cmpi .slt e 32#32) = 1#1) : e.toNat < 32 := by
  rw [WordCmp.cmpi_sge_eq, WordCmp.cmpi_slt_eq, WordCmp.andi_ofBool, WordCmp.ofBool_eq_one_iff, Bool.and_eq_true, decide_eq_true_iff, decide_eq_true_iff] at h
  obtain ⟨h0, h1⟩ := h
  have e0 : (0#32 : BitVec 32).toInt = 0 := by decide
  have e1 : (32#32 : BitVec 32).toInt = 32 := by decide
  rw [e0] at h0
  rw [e1] at h1
  rw [BitVec.toInt_eq_toNat_cond] at h0 h1
  split at h0 <;> split at h1 <;> omega

/-- A block has rows if its number of rows, read signed, is positive. -/
theorem rows_iff (n : BitVec 32) : Cert.Kernel2Ideal.k0_cond2 n = 1#1 ↔ 0 < n.toInt := by
  have h : Scalar.cmpi .sgt n 0#32 = BitVec.ofBool (decide (0 < n.toInt)) := WordCmp.cmpi_sgt_eq _ _
  unfold Cert.Kernel2Ideal.k0_cond2
  dsimp only
  rw [h]
  by_cases hn : 0 < n.toInt
  · simp only [hn]; decide
  · simp only [hn]; decide

theorem order_word (a b n p : BitVec 32)
    (h : IntOp.ori (IntOp.ori (IntOp.cmpi .ne a b) (IntOp.cmpi .sle n 0#32)) (IntOp.cmpi .sgt p 0#32) = 1#1) (e : a = b)
    (hn : 0 < n.toInt) : 0 < p.toInt := by
  subst e
  have e0 : (0#32 : BitVec 32).toInt = 0 := by decide
  rw [WordCmp.cmpi_ne_eq, WordCmp.cmpi_sle_eq, WordCmp.cmpi_sgt_eq, WordCmp.ori_ofBool, WordCmp.ori_ofBool, WordCmp.ofBool_eq_one_iff, e0] at h
  simp only [ne_eq, not_true_eq_false, decide_false, Bool.false_or, Bool.or_eq_true, decide_eq_true_iff] at h
  omega

variable {F : FTy → Type} [FloatOps F]

open Cert.Pre_experts_named Cert.Pre_experts_named.Gen in
theorem ordered (E N : IVec Cert.Pre_experts_named.S288 32) (X : IVec Cert.Pre_experts_named.S147456x512 32) (W1 : FVec F Cert.Pre_experts_named.S32x1024x2048 .f32)
    (B1 : FVec F Cert.Pre_experts_named.S32x1x2048 .f32) (W2 : FVec F Cert.Pre_experts_named.S32x1024x1024 .f32) (B2 : FVec F Cert.Pre_experts_named.S32x1x1024 .f32)
    (h : Cert.Pre_experts_named.fn (F := F) E N X W1 B1 W2 B2 = fun _ => 1#1) : Ordered E N := by
  have h0 := congrFun h ix0
  obtain ⟨h1, h2⟩ := IntOp.andi_eq_one.1 h0
  haveI : Subsingleton Cert.Pre_experts_named.S_.Idx := ⟨fun a b => funext fun x => x.elim0⟩
  refine ⟨fun j => small_word _ (Host.reduce_andi_all _ _ _ _ _ h1 j), fun n hn e hr => ?_⟩
  rw [rows_iff] at hr ⊢
  have hw := Host.reduce_andi_all _ _ _ _ _ h2 (ix1 ⟨n, by omega⟩)
  have ee : ∀ T : IVec Cert.Pre_experts_named.S288 32, T (entry (n + 1) hn) = extractStridedSlice Cert.Pre_experts_named.S287 ![1] T slices_S288_S287_1 (ix1 ⟨n, by omega⟩) := fun T =>
    congrArg T (funext fun a => Fin.ext (by match a with | ⟨0, _⟩ => exact Nat.add_comm n 1))
  have e0 : ∀ T : IVec Cert.Pre_experts_named.S288 32, T (entry n (by omega)) = extractStridedSlice Cert.Pre_experts_named.S287 ![0] T slices_S288_S287_0 (ix1 ⟨n, by omega⟩) := fun T =>
    congrArg T (funext fun a => Fin.ext (by match a with | ⟨0, _⟩ => exact (Nat.zero_add n).symm))
  exact (congrArg (fun w : BitVec 32 => 0 < w.toInt) (e0 N)).mpr (order_word _ _ _ _ hw ((ee E).symm.trans (e.trans (e0 E))) ((congrArg (fun w : BitVec 32 => 0 < w.toInt) (ee N)).mp hr))

end Cert.Ffn
end
-- ==== Proof.FfnMath.lean ====
module

public import Idealize.ShloMosaic.Lib.Pointwise

/-!
# The expert's mathematics

One row through one expert, over the extended reals.
-/

@[expose] public section

noncomputable section

namespace Cert.Ffn

open Idealize.ShloMosaic

/-- The gated unit: the gate's number cut at seven, its sigmoid at 1.702, and the linear number cut to seven and one more. -/
def gated (g l : EReal) : EReal :=
  min g (Ideal.ofBits .f32 0x40E00000#32)
      * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) l) + 1)

/-- Column `f` of the gate's half, and of the linear half, of the first weights. -/
def lo (f : Fin 1024) : Fin 2048 := ⟨f.val, by omega⟩
def hi (f : Fin 1024) : Fin 2048 := ⟨1024 + f.val, by omega⟩

/-- The hidden numbers of a row. -/
def hidden (x : Fin 1024 → EReal) (w1 : Fin 1024 → Fin 2048 → EReal) (b1 : Fin 2048 → EReal) (f : Fin 1024) : EReal :=
  gated ((∑ d, x d * w1 d (lo f)) + b1 (lo f)) ((∑ d, x d * w1 d (hi f)) + b1 (hi f))

/-- A row through an expert. -/
def expert (x : Fin 1024 → EReal) (w1 : Fin 1024 → Fin 2048 → EReal) (b1 : Fin 2048 → EReal) (w2 : Fin 1024 → Fin 1024 → EReal)
    (b2 : Fin 1024 → EReal) (C : Fin 1024) : EReal :=
  (∑ f, hidden x w1 b1 f * w2 f C) + b2 C

/-- Column `f` of the first half and of the second half of the hidden numbers. -/
def first (f : Fin 512) : Fin 1024 := ⟨f.val, by omega⟩
def second (f : Fin 512) : Fin 1024 := ⟨512 + f.val, by omega⟩

/-- A sum over the hidden numbers is the sum over its halves. -/
theorem sum_halves (f : Fin 1024 → EReal) : ∑ k, f k = (∑ k, f (first k)) + ∑ k, f (second k) := by
  refine (Fin.sum_univ_add (a := 512) (b := 512) f).trans ?_
  rfl

/-- The two numbers of a word. -/
def low (w : BitVec 32) : EReal := Ideal.ofBits .f32 (IntOp.shli .host w 16#32)
def high (w : BitVec 32) : EReal := Ideal.ofBits .f32 (IntOp.andi w 4294901760#32)

/-- A row of words as a row of numbers: first the low ones, then the high ones. -/
def numbers (w : Fin 512 → BitVec 32) (c : Fin 1024) : EReal :=
  if h : c.val < 512 then low (w ⟨c.val, h⟩) else high (w ⟨c.val - 512, by omega⟩)

/-- A number of a row in the first `n` of its block, zero beyond. -/
def kept (n : BitVec 32) (r : Fin 512) (v : EReal) : EReal :=
  Scalar.select (IntOp.cmpi .slt (BitVec.ofNat 32 r.val) n) v 0

/-- A number of a block that has rows, zero in a block without. -/
def wanted (n : BitVec 32) (v : EReal) : EReal := Scalar.select (IntOp.cmpi .sgt n 0#32) v 0

end Cert.Ffn
end
-- ==== Proof.FfnTile.lean ====
module

public import proofs.«01_k».proof.Proof.FfnBody
public import proofs.«01_k».proof.Proof.FfnMath

/-!
# The expert's block, read at an index
-/

@[expose] public section

set_option maxRecDepth 16384

noncomputable section

namespace Cert.Ffn

open Cert.Kernel2Ideal Cert.Kernel2Ideal.Gen
open Idealize.ShloMosaic

theorem up_at (x : Vec Ideal S1x1024x2048 .f32) (d : Fin 1024) (f : Fin 2048) :
    keptUp (F := Ideal) x (ix2 d f) = x (ix3 0 d f) := by
  pointwise [keptUp, k0_pay1]

theorem down_at (x : Vec Ideal S1x1024x1024 .f32) (f : Fin 1024) (C : Fin 1024) :
    keptDown (F := Ideal) x (ix2 f C) = x (ix3 0 f C) := by
  pointwise [keptDown, k0_pay2]

theorem zeros_at (r : Fin 512) (C : Fin 1024) : (k0_pay4 (F := Ideal)) (ix2 r C) = 0 := by
  pointwise [k0_pay4]

/-- A word kept or zero has its numbers kept or zero. -/
theorem low_select (b : BitVec 1) (w : BitVec 32) : Ideal.ofBits .f32 (IntOp.shli .vector (Scalar.select b w 0#32) 16#32) = Scalar.select b (low w) 0 := by
  unfold Scalar.select
  by_cases hb : b = 1
  · rw [if_pos hb, if_pos hb]; rfl
  · rw [if_neg hb, if_neg hb]
    exact (congrArg (Ideal.ofBits .f32) (by decide : IntOp.shli .vector (0#32 : BitVec 32) 16#32 = 0#32)).trans Ideal.ofBits_zero_f32

theorem high_select (b : BitVec 1) (w : BitVec 32) : Ideal.ofBits .f32 (IntOp.andi (Scalar.select b w 0#32) 4294901760#32) = Scalar.select b (high w) 0 := by
  unfold Scalar.select
  by_cases hb : b = 1
  · rw [if_pos hb, if_pos hb]; rfl
  · rw [if_neg hb, if_neg hb]
    exact (congrArg (Ideal.ofBits .f32) (by decide : IntOp.andi (0#32 : BitVec 32) 4294901760#32 = 0#32)).trans Ideal.ofBits_zero_f32

theorem words_at (n : BitVec 32) (x : Vec Ideal S512x512 .i32) (r : Fin 512) (d : Fin 1024) :
    k0_pay5 (F := Ideal) n x (ix2 r d)
      = if h : d.val < 512 then Ideal.ofBits .f32 (IntOp.shli .vector (Scalar.select (IntOp.cmpi .slt (BitVec.ofNat 32 r.val) n) (x (ix2 r ⟨d.val, h⟩)) 0#32) 16#32)
        else Ideal.ofBits .f32 (IntOp.andi (Scalar.select (IntOp.cmpi .slt (BitVec.ofNat 32 r.val) n) (x (ix2 r ⟨d.val - 512, by omega⟩)) 0#32) 4294901760#32) := by
  pointwise [k0_pay5]

theorem masked_at (n : BitVec 32) (x : Vec Ideal S512x512 .i32) (r : Fin 512) (d : Fin 1024) :
    k0_pay5 (F := Ideal) n x (ix2 r d) = kept n r (numbers (fun c => x (ix2 r c)) d) := by
  rw [words_at]
  unfold kept numbers
  by_cases h : d.val < 512
  · rw [dif_pos h, dif_pos h, low_select]
  · rw [dif_neg h, dif_neg h, high_select]

theorem half_at (n : BitVec 32) (x : Vec Ideal S512x512 .i32) (wg wl : Vec Ideal S1024x512 .bf16) (bg bl : Vec Ideal S1x1x512 .f32)
    (r f : Fin 512) :
    k0_pay7 (F := Ideal) n x wg bg (ix2 r f) * (k0_pay6 (F := Ideal) n x wl bl (ix2 r f) + 1)
      = gated ((∑ d : Fin 1024, k0_pay5 (F := Ideal) n x (ix2 r d) * wg (ix2 d f)) + bg (ix3 0 0 f))
          ((∑ d : Fin 1024, k0_pay5 (F := Ideal) n x (ix2 r d) * wl (ix2 d f)) + bl (ix3 0 0 f)) := by
  unfold k0_pay6 k0_pay7
  generalize k0_pay5 (F := Ideal) n x = y
  pointwise [gated]
  rfl

theorem rest_at (y : FVec Ideal S512x1024 .bf16) (p q : FVec Ideal S512x512 .f32) (v : Vec Ideal S512x1024 .bf16)
    (wg wl : Vec Ideal S1024x512 .bf16) (bg bl : Vec Ideal S1x1x512 .f32) (w2 : Vec Ideal S512x1024 .bf16) (r : Fin 512) (C : Fin 1024) :
    k0_pay8 (F := Ideal) y p q v wg bg wl bl w2 (ix2 r C)
      = (∑ f : Fin 512, (q (ix2 r f) * (p (ix2 r f) + 1)) * v (ix2 f C)) + ∑ f : Fin 512, gated ((∑ d : Fin 1024, y (ix2 r d) * wg (ix2 d f)) + bg (ix3 0 0 f))
          ((∑ d : Fin 1024, y (ix2 r d) * wl (ix2 d f)) + bl (ix3 0 0 f)) * w2 (ix2 f C) := by
  unfold k0_pay8
  pointwise [gated]
  rfl

theorem ends_at (h : FVec Ideal S512x1024 .f32) (b2 : Vec Ideal S1x1x1024 .f32) (r : Fin 512) (C : Fin 1024) :
    k0_pay3 (F := Ideal) h b2 (ix2 r C) = h (ix2 r C) + b2 (ix3 0 0 C) := by
  pointwise [k0_pay3]

theorem cols_at (u : Vec Ideal S1024x2048 .bf16) (o : ℕ) (h : ∀ a : Fin 2, (![0, o] : Fin 2 → ℕ) a + S1024x512.size a ≤ S1024x2048.size a)
    (e : Fin 1024) (f : Fin 512) (g : Fin 2048) (hg : g.val = o + f.val) :
    View.ld u (Rect.unit (s := S1024x2048) ![0, o] S1024x512.size h) (ix2 e f) = u (ix2 e g) := by
  refine congrArg u (funext fun a => Fin.ext ?_)
  match a with
  | ⟨0, _⟩ => show 0 + 1 * e.val = e.val; omega
  | ⟨1, _⟩ => show o + 1 * f.val = g.val; omega

theorem rows_at (d : Vec Ideal S1024x1024 .bf16) (o : ℕ) (h : ∀ a : Fin 2, (![o, 0] : Fin 2 → ℕ) a + S512x1024.size a ≤ S1024x1024.size a)
    (f : Fin 512) (C g : Fin 1024) (hg : g.val = o + f.val) :
    View.ld d (Rect.unit (s := S1024x1024) ![o, 0] S512x1024.size h) (ix2 f C) = d (ix2 g C) := by
  refine congrArg d (funext fun a => Fin.ext ?_)
  match a with
  | ⟨0, _⟩ => show o + 1 * f.val = g.val; omega
  | ⟨1, _⟩ => show 0 + 1 * C.val = C.val; omega

theorem bias_at (x : Vec Ideal S1x1x2048 .f32) (o : ℕ) (h : ∀ a : Fin 3, (![0, 0, o] : Fin 3 → ℕ) a + S1x1x512.size a ≤ S1x1x2048.size a)
    (f : Fin 512) (g : Fin 2048) (hg : g.val = o + f.val) :
    View.ld x (Rect.unit (s := S1x1x2048) ![0, 0, o] S1x1x512.size h) (ix3 0 0 f) = x (ix3 0 0 g) := by
  refine congrArg x (funext fun a => Fin.ext ?_)
  match a with
  | ⟨0, _⟩ => rfl
  | ⟨1, _⟩ => rfl
  | ⟨2, _⟩ => show o + 1 * f.val = g.val; omega

theorem block_at (n : BitVec 32) (x0 : Vec Ideal S512x512 .i32) (x2 : Vec Ideal S1x1x2048 .f32) (x4 : Vec Ideal S1x1x1024 .f32)
    (u : Vec Ideal S1024x2048 .bf16) (d : Vec Ideal S1024x1024 .bf16) (r : Fin 512) (C : Fin 1024) :
    blockOf (F := Ideal) n x0 x2 x4 u d (ix2 r C)
      = expert (fun e => kept n r (numbers (fun c => x0 (ix2 r c)) e)) (fun e f => u (ix2 e f)) (fun f => x2 (ix3 0 0 f)) (fun f C => d (ix2 f C))
          (fun C => x4 (ix3 0 0 C)) C := by
  unfold blockOf
  rw [View.ld_unit_zero zeros2, View.ld_unit_zero zeros3, ends_at, rest_at]
  simp only [half_at, masked_at]
  unfold expert
  rw [sum_halves]
  refine congrArg (· + x4 (ix3 0 0 C)) (congrArg₂ (· + ·) (Finset.sum_congr rfl fun f _ => ?_) (Finset.sum_congr rfl fun f _ => ?_))
  · rw [rows_at d 0 _ f C (first f) (Nat.zero_add _).symm, bias_at x2 0 _ f (lo (first f)) (Nat.zero_add _).symm, bias_at x2 1024 _ f (hi (first f)) rfl]
    simp only [cols_at u 0 _ _ f (lo (first f)) (Nat.zero_add _).symm, cols_at u 1024 _ _ f (hi (first f)) rfl]
    rfl
  · have hs : (hi (second f)).val = 1536 + f.val := by show 1024 + (512 + f.val) = _; omega
    rw [rows_at d 512 _ f C (second f) rfl, bias_at x2 512 _ f (lo (second f)) rfl, bias_at x2 1536 _ f (hi (second f)) hs]
    simp only [cols_at u 512 _ _ f (lo (second f)) rfl, cols_at u 1536 _ _ f (hi (second f)) hs]
    rfl

end Cert.Ffn
end
-- ==== Proof.FfnRef.lean ====
module

public import proofs.«01_k».proof.Proof.Gen.Reference2Ideal
public import proofs.«01_k».proof.Proof.Gen.Reference2Ideal.Run
public import proofs.«01_k».proof.Proof.FfnMath
public import Idealize.ShloMosaic.Lib.WordCmp

/-!
# What the experts' reference computes

Where every block names an expert, the reference's result at a row and a column is the row through its block's expert.
-/

@[expose] public section

set_option maxRecDepth 16384

noncomputable section

namespace Cert.FfnRef

open Cert.Reference2Ideal Cert.Reference2Ideal.Gen
open Idealize.ShloMosaic Cert.Ffn

/-- The experts' numbers, a negative one counted from the end. -/
def named (E : IVec S288 32) : IVec S288x1 32 :=
  broadcastInDim S288x1 ![0] bcast_S288_S288x1_0 (select (cmpi .slt E (broadcastInDim S288 ![] bcast_S_S288 (constantI S_ 32 0#32)))
    (addi E (broadcastInDim S288 ![] bcast_S_S288 (constantI S_ 32 32#32))) E)

/-- The rows' words as numbers. -/
def opened (X : IVec S147456x512 32) : FVec Ideal S147456x1024 .f32 :=
  concatenate S147456x1024 1 [⟨S147456x512, (bitcastToFloat (F := Ideal) .f32 (Host.shli X (broadcastInDim S147456x512 ![] bcast_S_S147456x512 (constantI S_ 32 16#32))))⟩, ⟨S147456x512, (bitcastToFloat (F := Ideal) .f32 (andi X (broadcastInDim S147456x512 ![] bcast_S_S147456x512 (constantI S_ 32 4294901760#32))))⟩] concatenates_S147456x512_S147456x512_S147456x1024_d1

/-- The rows, zero beyond the number of rows of their block. -/
def masked (N : IVec S288 32) (X : FVec Ideal S147456x1024 .f32) : FVec Ideal S288x512x1024 .f32 :=
  select (broadcastInDim S288x512x1024 ![0, 1, 2] bcast_S288x512x1_S288x512x1024_0_1_2 (broadcastInDim S288x512x1 ![0, 1] bcast_S288x512_S288x512x1_0_1
      (cmpi .slt (broadcastInDim S288x512 ![0, 1] bcast_S1x512_S288x512_0_1 (broadcastInDim S1x512 ![1] bcast_S512_S1x512_1 (iotaInDim S512 32 0)))
        (broadcastInDim S288x512 ![0, 1] bcast_S288x1_S288x512_0_1 (broadcastInDim S288x1 ![0] bcast_S288_S288x1_0 N)))))
    (shapeCast _ X shapeCasts_S147456x1024_S288x512x1024) (broadcastInDim S288x512x1024 ![] bcast_S_S288x512x1024 (id (constant S_ .f32 0x00000000#32)))

/-- The first product with its bias. -/
def up (x : FVec Ideal S288x512x1024 .f32) (I : IVec S288x1 32) (W : FVec Ideal S32x1024x2048 .f32) (B : FVec Ideal S32x1x2048 .f32) :
    FVec Ideal S288x512x2048 .f32 :=
  addf (Host.dotGeneral dot_S288x512x1024_S288x1024x2048_S288x512x2048_2_1_1_2_0_0 none x
      (Host.gather gather_S32x1024x2048_S288x1_S288x1024x2048_12_0_n_n_0_1_110242048 W I))
    (broadcastInDim S288x512x2048 ![0, 1, 2] bcast_S288x1x2048_S288x512x2048_0_1_2 (Host.gather gather_S32x1x2048_S288x1_S288x1x2048_12_0_n_n_0_1_112048 B I))

/-- The gate's half, cut at seven. -/
def gate (h : FVec Ideal S288x512x2048 .f32) : FVec Ideal S288x512x1024 .f32 :=
  minimumf (extractStridedSlice S288x512x1024 ![0, 0, 0] h slices_S288x512x2048_S288x512x1024_0_0_0)
    (broadcastInDim S288x512x1024 ![] bcast_S_S288x512x1024 (constant S_ .f32 0x40E00000#32))

/-- The gated numbers. -/
def act (h : FVec Ideal S288x512x2048 .f32) : FVec Ideal S288x512x1024 .f32 :=
  mulf (mulf (gate h) (Host.divf (broadcastInDim S288x512x1024 ![] bcast_S_S288x512x1024 (constant S_ .f32 0x3F800000#32))
      (addf (broadcastInDim S288x512x1024 ![] bcast_S_S288x512x1024 (constant S_ .f32 0x3F800000#32))
        (Host.exp (Host.negf (mulf (broadcastInDim S288x512x1024 ![] bcast_S_S288x512x1024 (constant S_ .f32 0x3FD9DB23#32)) (gate h)))))))
    (addf (minimumf (broadcastInDim S288x512x1024 ![] bcast_S_S288x512x1024 (id (constant S_ .f32 0x40E00000#32)))
        (maximumf (broadcastInDim S288x512x1024 ![] bcast_S_S288x512x1024 (id (constant S_ .f32 0xC0E00000#32)))
          (extractStridedSlice S288x512x1024 ![0, 0, 1024] h slices_S288x512x2048_S288x512x1024_0_0_1024)))
      (broadcastInDim S288x512x1024 ![] bcast_S_S288x512x1024 (constant S_ .f32 0x3F800000#32)))

/-- The second product with its bias. -/
def down (a : FVec Ideal S288x512x1024 .f32) (I : IVec S288x1 32) (W : FVec Ideal S32x1024x1024 .f32) (B : FVec Ideal S32x1x1024 .f32) :
    FVec Ideal S288x512x1024 .f32 :=
  addf (Host.dotGeneral dot_S288x512x1024_S288x1024x1024_S288x512x1024_2_1_1_2_0_0 none a
      (Host.gather gather_S32x1024x1024_S288x1_S288x1024x1024_12_0_n_n_0_1_110241024 W I))
    (broadcastInDim S288x512x1024 ![0, 1, 2] bcast_S288x1x1024_S288x512x1024_0_1_2 (Host.gather gather_S32x1x1024_S288x1_S288x1x1024_12_0_n_n_0_1_111024 B I))

/-- The result, zero in the blocks without rows. -/
def shown (N : IVec S288 32) (y : FVec Ideal S288x512x1024 .f32) : FVec Ideal S147456x1024 .bf16 :=
  truncf .bf16 (shapeCast _ (select (broadcastInDim S288x512x1024 ![0, 1, 2] bcast_S288x1x1_S288x512x1024_0_1_2
      (broadcastInDim S288x1x1 ![0] bcast_S288_S288x1x1_0 (cmpi .sgt N (broadcastInDim S288 ![] bcast_S_S288 (constantI S_ 32 0#32)))))
    y (broadcastInDim S288x512x1024 ![] bcast_S_S288x512x1024 (id (constant S_ .f32 0x00000000#32)))) shapeCasts_S288x512x1024_S147456x1024) bitsLt_bf16_f32

def result (E N : IVec S288 32) (X : IVec S147456x512 32) (W1 : FVec Ideal S32x1024x2048 .f32) (B1 : FVec Ideal S32x1x2048 .f32)
    (W2 : FVec Ideal S32x1024x1024 .f32) (B2 : FVec Ideal S32x1x1024 .f32) : FVec Ideal S147456x1024 .bf16 :=
  shown N (down (act (up (masked N (opened X)) (named E) W1 B1)) (named E) W2 B2)

theorem run_result (m : (ℓ : Loc nD τ sig) → Buf (Elt Ideal) ℓ) (ρ : Dev nD → PrngReg) :
    θ_run (Cert.Reference2Ideal.defs (F := Ideal)) (onTc (τ := τ) (main (F := Ideal))) ⟨m, fun _ => 0, ρ⟩ fun r => ∀ c : Dev nD,
      r.2.mem ((c.tc : Thread nD τ).loc main_v72)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

/-- The block of a row of the array, and the row in it. -/
def block (R : Fin 147456) : Fin 288 := ⟨R.val / 512, by omega⟩
def place (R : Fin 147456) : Fin 512 := ⟨R.val % 512, by omega⟩
def rowOf (b : Fin 288) (r : Fin 512) : Fin 147456 := ⟨b.val * 512 + r.val, by omega⟩

theorem shown_at (N : IVec S288 32) (y : FVec Ideal S288x512x1024 .f32) (R : Fin 147456) (C : Fin 1024) :
    shown N y (ix2 R C) = wanted (N (ix1 (block R))) (y (ix3 (block R) (place R) C)) := by
  pointwise [shown, wanted, block, place]
  exact congrArg (Scalar.select _ _) Ideal.ofBits_zero_f32

theorem masked_at (N : IVec S288 32) (X : FVec Ideal S147456x1024 .f32) (b : Fin 288) (r : Fin 512) (d : Fin 1024) :
    masked N X (ix3 b r d) = kept (N (ix1 b)) r (X (ix2 (rowOf b r) d)) := by
  pointwise [masked, kept, rowOf]
  exact congrArg (Scalar.select _ _) Ideal.ofBits_zero_f32

theorem opened_at (X : IVec S147456x512 32) (R : Fin 147456) (d : Fin 1024) : opened X (ix2 R d) = numbers (fun c => X (ix2 R c)) d := by
  pointwise [opened, numbers, low, high]

theorem act_at (h : FVec Ideal S288x512x2048 .f32) (b : Fin 288) (r : Fin 512) (f : Fin 1024) :
    act h (ix3 b r f) = gated (h (ix3 b r (lo f))) (h (ix3 b r (hi f))) := by
  pointwise [act, gate, gated, lo, hi]
  rfl

theorem named_at (E : IVec S288 32) (b : Fin 288) (e : Fin 32) (he : E (ix1 b) = BitVec.ofNat 32 e.val) :
    named E (ix2 b 0) = BitVec.ofNat 32 e.val := by
  pointwise [named]
  rw [he]
  have h : ∀ e : Fin 32, Scalar.select (IntOp.cmpi .slt (BitVec.ofNat 32 e.val) 0#32) (IntOp.addi (BitVec.ofNat 32 e.val) 32#32) (BitVec.ofNat 32 e.val)
      = BitVec.ofNat 32 e.val := by decide
  exact h e

/-- The choice of one slab of 32 for each block. -/
abbrev choice (A B : ℕ) (wf : GatherDims.WF ⟨3, ![32, A, B]⟩ ⟨2, ![288, 1]⟩ ⟨3, ![288, A, B]⟩ [1, 2] [0] [] [0] [] 1 ![1, A, B]) :
    GatherDims ⟨3, ![32, A, B]⟩ ⟨2, ![288, 1]⟩ ⟨3, ![288, A, B]⟩ where
  offsetDims := [1, 2]
  collapsedSliceDims := [0]
  operandBatchingDims := []
  startIndicesBatchingDims := []
  startIndexMap := [0]
  indexVectorDim := 1
  sliceSizes := ![1, A, B]
  wf := wf

/-- A block's slab is the slab of its number. -/
theorem choice_at {A B : ℕ} (wf) (x : (⟨3, ![32, A, B]⟩ : Shape).Idx → EReal) (I : IVec ⟨2, ![288, 1]⟩ 32) (b : Fin 288) (p : Fin A) (q : Fin B)
    (e : Fin 32) (he : I (ix2 b 0) = BitVec.ofNat 32 e.val) :
    Host.gather (choice A B wf) x I (ix3 b p q) = x (ix3 e p q) := by
  refine congrArg x (funext fun a => Fin.ext ?_)
  show (choice A B wf).start (ix3 b p q) I a + (choice A B wf).batchCoord (ix3 b p q) a + (choice A B wf).offCoord (ix3 b p q) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ ([0] : List (Fin 3)) from List.mem_singleton.mpr rfl)).trans ?_
    have hs : ∀ h, (choice A B wf).siIdx (ix3 b p q) ⟨List.idxOf (0 : Fin 3) (choice A B wf).startIndexMap, h⟩ = ix2 b 0 := by
      intro h
      funext k
      match k with
      | ⟨0, _⟩ => rfl
      | ⟨1, _⟩ => rfl
    have hc : ∀ e : Fin 32, min (BitVec.ofNat 32 e.val).toInt.toNat 31 = e.val := by decide
    refine Eq.trans ?_ (hc e)
    rw [← he]
    exact congrArg (fun k => min (I k).toInt.toNat 31) (hs _)
  | ⟨1, _⟩ =>
    have h0 : (1 : Fin 3) ∉ ([0] : List (Fin 3)) := by decide
    refine (congrArg₂ (· + ·) (dif_neg h0) (dif_pos ((GatherDims.mem_sKept (choice A B wf) (1 : Fin 3)).2 ⟨h0, List.not_mem_nil⟩))).trans ((Nat.zero_add _).trans ?_)
    rfl
  | ⟨2, _⟩ =>
    have h0 : (2 : Fin 3) ∉ ([0] : List (Fin 3)) := by decide
    refine (congrArg₂ (· + ·) (dif_neg h0) (dif_pos ((GatherDims.mem_sKept (choice A B wf) (2 : Fin 3)).2 ⟨h0, List.not_mem_nil⟩))).trans ((Nat.zero_add _).trans ?_)
    rfl

theorem up_at (x : FVec Ideal S288x512x1024 .f32) (I : IVec S288x1 32) (W : FVec Ideal S32x1024x2048 .f32) (B : FVec Ideal S32x1x2048 .f32)
    (b : Fin 288) (r : Fin 512) (f : Fin 2048) (e : Fin 32) (he : I (ix2 b 0) = BitVec.ofNat 32 e.val) :
    up x I W B (ix3 b r f) = (∑ d : Fin 1024, x (ix3 b r d) * W (ix3 e d f)) + B (ix3 e 0 f) := by
  have hW : ∀ d f, Host.gather gather_S32x1024x2048_S288x1_S288x1024x2048_12_0_n_n_0_1_110242048 W I (ix3 b d f) = W (ix3 e d f) :=
    fun d f => choice_at _ W I b d f e he
  have hB : ∀ d f, Host.gather gather_S32x1x2048_S288x1_S288x1x2048_12_0_n_n_0_1_112048 B I (ix3 b d f) = B (ix3 e d f) :=
    fun d f => choice_at _ B I b d f e he
  unfold up
  rw [← hB]
  simp only [← hW]
  generalize Host.gather gather_S32x1024x2048_S288x1_S288x1024x2048_12_0_n_n_0_1_110242048 W I = w
  generalize Host.gather gather_S32x1x2048_S288x1_S288x1x2048_12_0_n_n_0_1_112048 B I = v
  clear hW hB
  pointwise

theorem down_at (x : FVec Ideal S288x512x1024 .f32) (I : IVec S288x1 32) (W : FVec Ideal S32x1024x1024 .f32) (B : FVec Ideal S32x1x1024 .f32)
    (b : Fin 288) (r : Fin 512) (f : Fin 1024) (e : Fin 32) (he : I (ix2 b 0) = BitVec.ofNat 32 e.val) :
    down x I W B (ix3 b r f) = (∑ d : Fin 1024, x (ix3 b r d) * W (ix3 e d f)) + B (ix3 e 0 f) := by
  have hW : ∀ d f, Host.gather gather_S32x1024x1024_S288x1_S288x1024x1024_12_0_n_n_0_1_110241024 W I (ix3 b d f) = W (ix3 e d f) :=
    fun d f => choice_at _ W I b d f e he
  have hB : ∀ d f, Host.gather gather_S32x1x1024_S288x1_S288x1x1024_12_0_n_n_0_1_111024 B I (ix3 b d f) = B (ix3 e d f) :=
    fun d f => choice_at _ B I b d f e he
  unfold down
  rw [← hB]
  simp only [← hW]
  generalize Host.gather gather_S32x1024x1024_S288x1_S288x1024x1024_12_0_n_n_0_1_110241024 W I = w
  generalize Host.gather gather_S32x1x1024_S288x1_S288x1x1024_12_0_n_n_0_1_111024 B I = v
  clear hW hB
  pointwise

/-- What the result is to hold: the row through its block's expert. -/
def answer (e : Fin 288 → Fin 32) (N : IVec S288 32) (X : IVec S147456x512 32) (W1 : FVec Ideal S32x1024x2048 .f32) (B1 : FVec Ideal S32x1x2048 .f32)
    (W2 : FVec Ideal S32x1024x1024 .f32) (B2 : FVec Ideal S32x1x1024 .f32) (b : Fin 288) (r : Fin 512) (C : Fin 1024) : EReal :=
  wanted (N (ix1 b)) (expert (fun d => kept (N (ix1 b)) r (numbers (fun c => X (ix2 (rowOf b r) c)) d)) (fun d f => W1 (ix3 (e b) d f)) (fun f => B1 (ix3 (e b) 0 f))
    (fun f C => W2 (ix3 (e b) f C)) (fun C => B2 (ix3 (e b) 0 C)) C)

theorem result_at (E N : IVec S288 32) (X : IVec S147456x512 32) (W1 : FVec Ideal S32x1024x2048 .f32) (B1 : FVec Ideal S32x1x2048 .f32)
    (W2 : FVec Ideal S32x1024x1024 .f32) (B2 : FVec Ideal S32x1x1024 .f32) (e : Fin 288 → Fin 32) (he : ∀ b, E (ix1 b) = BitVec.ofNat 32 (e b).val)
    (R : Fin 147456) (C : Fin 1024) :
    result E N X W1 B1 W2 B2 (ix2 R C) = answer e N X W1 B1 W2 B2 (block R) (place R) C := by
  have hi := named_at E (block R) (e (block R)) (he _)
  unfold result answer
  rw [shown_at, down_at _ _ _ _ _ _ _ _ hi]
  unfold expert Cert.Ffn.hidden
  simp only [act_at, up_at _ _ _ _ _ _ _ _ hi, masked_at, opened_at]

end Cert.FfnRef
end
-- ==== Proof.FfnOut.lean ====
module

public import proofs.«01_k».proof.Proof.FfnRun
public import proofs.«01_k».proof.Proof.FfnTile
public import proofs.«01_k».proof.Proof.FfnRef
public import Idealize.ShloMosaic.Lib.Pipeline.Value

/-!
# What the experts leave

The 288 blocks cover the result.  Each holds its rows through its expert, so the result is the reference's.
-/

@[expose] public section

set_option maxRecDepth 16384

noncomputable section

namespace Cert.Ffn

open Cert.Kernel2Ideal Cert.Kernel2Ideal.Gen
open Idealize.ShloMosaic Idealize.ShloMosaic.TcCoe Idealize.SL.Sem
open Cert.FfnRef (block place rowOf)

variable (m : (ℓ : Loc nD τ sig) → Buf (Elt Ideal) ℓ) (ρ : Dev nD → PrngReg) (ho : Ordered (tE m) (tN m)) (c : Dev nD)

/-- The arguments. -/
def aX : IVec S147456x512 32 := m ((c : Thread nD τ).loc main_arg2)
def aU : FVec Ideal S32x1024x2048 .f32 := m ((c : Thread nD τ).loc main_arg3)
def aB : FVec Ideal S32x1x2048 .f32 := m ((c : Thread nD τ).loc main_arg4)
def aD : FVec Ideal S32x1024x1024 .f32 := m ((c : Thread nD τ).loc main_arg5)
def aC : FVec Ideal S32x1x1024 .f32 := m ((c : Thread nD τ).loc main_arg6)

theorem entry_ix (n : ℕ) (h : n < 288) : entry n h = ix1 ⟨n, h⟩ := by
  funext a
  match a with | ⟨0, _⟩ => rfl

/-- The expert of a block. -/
def nameOf (b : Fin 288) : Fin 32 := ⟨(tE m (ix1 b)).toNat, ho.named _⟩

theorem nameOf_word (b : Fin 288) : tE m (ix1 b) = BitVec.ofNat 32 (nameOf m ho b).val := by
  show _ = BitVec.ofNat 32 (tE m (ix1 b)).toNat
  rw [BitVec.ofNat_toNat, BitVec.setWidth_eq]

/-- The block of a point. -/
def blockAt (t : Fin (cfgT m ho).N) : Fin 288 := ⟨t.val, points m ho t⟩

theorem rows_places : ∀ t : Fin grid0.N, (cc0_transform_0 (grid0.coords t) 0 = t.val ∧ cc0_transform_0 (grid0.coords t) 1 = 0)
    ∧ cc0_transform_5 (grid0.coords t) 0 = t.val ∧ cc0_transform_5 (grid0.coords t) 1 = 0 := by decide +kernel

theorem name_place (t : Fin (cfgT m ho).N) : (tE m (entry t.val (points m ho t))).toNat = (nameOf m ho (blockAt m ho t)).val := by
  rw [entry_ix]; rfl

theorem one_step (k : ℕ) : k * 1 + 1 * 0 = k := by omega

theorem blk_0 (t : Fin (cfgT m ho).N) (r d : Fin 512) :
    (blk m ho c 0 t : Vec Ideal S512x512 .i32) (ix2 r d) = aX m c (ix2 (rowOf (blockAt m ho t) r) d) := by
  obtain ⟨⟨e0, e1⟩, -⟩ := rows_places t
  refine congrArg (m (((cfgT m ho).win 0).arr.view.loc (c : Thread nD τ))) (funext fun a => Fin.ext ?_)
  match a with
  | ⟨0, _⟩ =>
    show cc0_transform_0 (crd m ho t) 0 * 512 + 1 * r.val = t.val * 512 + r.val
    rw [e0, Nat.one_mul]
  | ⟨1, _⟩ =>
    show cc0_transform_0 (crd m ho t) 1 * 512 + 1 * d.val = d.val
    rw [e1]; omega

theorem blk_1 (t : Fin (cfgT m ho).N) (d : Fin 1024) (f : Fin 2048) :
    (blk m ho c 1 t : Vec Ideal S1x1024x2048 .f32) (ix3 0 d f) = aU m c (ix3 (nameOf m ho (blockAt m ho t)) d f) := by
  have e := (index_1 m ho t).trans (congrArg (fun k => (![k, 0, 0] : Fin 3 → ℕ)) (name_place m ho t))
  refine congrArg (m (((cfgT m ho).win 1).arr.view.loc (c : Thread nD τ))) (funext fun a => Fin.ext ?_)
  match a with
  | ⟨0, _⟩ => exact (congrArg (fun v : Fin 3 → ℕ => v 0 * 1 + 1 * 0) e).trans (one_step _)
  | ⟨1, _⟩ => exact (congrArg (fun v : Fin 3 → ℕ => v 1 * 1024 + 1 * d.val) e).trans (by show 0 * 1024 + 1 * d.val = d.val; omega)
  | ⟨2, _⟩ => exact (congrArg (fun v : Fin 3 → ℕ => v 2 * 2048 + 1 * f.val) e).trans (by show 0 * 2048 + 1 * f.val = f.val; omega)

theorem blk_2 (t : Fin (cfgT m ho).N) (f : Fin 2048) :
    (blk m ho c 2 t : Vec Ideal S1x1x2048 .f32) (ix3 0 0 f) = aB m c (ix3 (nameOf m ho (blockAt m ho t)) 0 f) := by
  have e := (index_2 m ho t).trans (congrArg (fun k => (![k, 0, 0] : Fin 3 → ℕ)) (name_place m ho t))
  refine congrArg (m (((cfgT m ho).win 2).arr.view.loc (c : Thread nD τ))) (funext fun a => Fin.ext ?_)
  match a with
  | ⟨0, _⟩ => exact (congrArg (fun v : Fin 3 → ℕ => v 0 * 1 + 1 * 0) e).trans (one_step _)
  | ⟨1, _⟩ => exact (congrArg (fun v : Fin 3 → ℕ => v 1 * 1 + 1 * 0) e)
  | ⟨2, _⟩ => exact (congrArg (fun v : Fin 3 → ℕ => v 2 * 2048 + 1 * f.val) e).trans (by show 0 * 2048 + 1 * f.val = f.val; omega)

theorem blk_3 (t : Fin (cfgT m ho).N) (f C : Fin 1024) :
    (blk m ho c 3 t : Vec Ideal S1x1024x1024 .f32) (ix3 0 f C) = aD m c (ix3 (nameOf m ho (blockAt m ho t)) f C) := by
  have e := (index_3 m ho t).trans (congrArg (fun k => (![k, 0, 0] : Fin 3 → ℕ)) (name_place m ho t))
  refine congrArg (m (((cfgT m ho).win 3).arr.view.loc (c : Thread nD τ))) (funext fun a => Fin.ext ?_)
  match a with
  | ⟨0, _⟩ => exact (congrArg (fun v : Fin 3 → ℕ => v 0 * 1 + 1 * 0) e).trans (one_step _)
  | ⟨1, _⟩ => exact (congrArg (fun v : Fin 3 → ℕ => v 1 * 1024 + 1 * f.val) e).trans (by show 0 * 1024 + 1 * f.val = f.val; omega)
  | ⟨2, _⟩ => exact (congrArg (fun v : Fin 3 → ℕ => v 2 * 1024 + 1 * C.val) e).trans (by show 0 * 1024 + 1 * C.val = C.val; omega)

theorem blk_4 (t : Fin (cfgT m ho).N) (C : Fin 1024) :
    (blk m ho c 4 t : Vec Ideal S1x1x1024 .f32) (ix3 0 0 C) = aC m c (ix3 (nameOf m ho (blockAt m ho t)) 0 C) := by
  have e := (index_4 m ho t).trans (congrArg (fun k => (![k, 0, 0] : Fin 3 → ℕ)) (name_place m ho t))
  refine congrArg (m (((cfgT m ho).win 4).arr.view.loc (c : Thread nD τ))) (funext fun a => Fin.ext ?_)
  match a with
  | ⟨0, _⟩ => exact (congrArg (fun v : Fin 3 → ℕ => v 0 * 1 + 1 * 0) e).trans (one_step _)
  | ⟨1, _⟩ => exact (congrArg (fun v : Fin 3 → ℕ => v 1 * 1 + 1 * 0) e)
  | ⟨2, _⟩ => exact (congrArg (fun v : Fin 3 → ℕ => v 2 * 1024 + 1 * C.val) e).trans (by show 0 * 1024 + 1 * C.val = C.val; omega)

/-- What a block is to hold. -/
abbrev holds (b : Fin 288) (r : Fin 512) (C : Fin 1024) : EReal :=
  Cert.FfnRef.answer (nameOf m ho) (tN m) (aX m c) (aU m c) (aB m c) (aD m c) (aC m c) b r C

/-- A number of rows is positive just when the body's test says so. -/
theorem wanted_rows (n : BitVec 32) (v : EReal) : wanted n v = if k0_cond2 n = 1#1 then v else 0 := by
  unfold wanted Scalar.select k0_cond2
  dsimp only
  change (if IntOp.cmpi .sgt n 0#32 = 1 then v else 0) = if Scalar.cmpi .ne (Scalar.extui (IntOp.cmpi .sgt n 0#32)) 0#32 = 1#1 then v else 0
  generalize IntOp.cmpi .sgt n 0#32 = x
  have h : ∀ x : BitVec 1, (x = 1) ↔ (Scalar.cmpi .ne (Scalar.extui x : BitVec 32) 0#32 = 1#1) := by decide
  exact if_congr (h x) rfl rfl

theorem expert_congr {x x' : Fin 1024 → EReal} {w1 w1' : Fin 1024 → Fin 2048 → EReal} {b1 b1' : Fin 2048 → EReal}
    {w2 w2' : Fin 1024 → Fin 1024 → EReal} {b2 b2' : Fin 1024 → EReal} (hx : ∀ d, x d = x' d) (h1 : ∀ d f, w1 d f = w1' d f)
    (hb : ∀ f, b1 f = b1' f) (h2 : ∀ f C, w2 f C = w2' f C) (hc : ∀ C, b2 C = b2' C) (C : Fin 1024) :
    expert x w1 b1 w2 b2 C = expert x' w1' b1' w2' b2' C := by
  obtain rfl : x = x' := funext hx
  obtain rfl : w1 = w1' := funext fun d => funext (h1 d)
  obtain rfl : b1 = b1' := funext hb
  obtain rfl : w2 = w2' := funext fun f => funext (h2 f)
  obtain rfl : b2 = b2' := funext hc
  rfl

theorem leaves_at (t : Fin (cfgT m ho).N) (r : Fin 512) (C : Fin 1024) : leaves m ho c t (ix2 r C) = holds m ho c (blockAt m ho t) r C := by
  have hn : tN m (entry t.val (points m ho t)) = tN m (ix1 (blockAt m ho t)) := congrArg (tN m) (entry_ix _ _)
  unfold holds Cert.FfnRef.answer leaves hasRows
  rw [wanted_rows, hn]
  by_cases hr : k0_cond2 (tN m (ix1 (blockAt m ho t))) = 1#1
  · rw [if_pos hr, if_pos hr]
    refine (block_at _ _ _ _ _ _ r C).trans ?_
    have h0 := blk_0 m ho c t
    have h1 := fun d f => (up_at (blk m ho c 1 t) d f).trans (blk_1 m ho c t d f)
    have h2 := blk_2 m ho c t
    have h3 := fun f C => (down_at (blk m ho c 3 t) f C).trans (blk_3 m ho c t f C)
    have h4 := blk_4 m ho c t
    exact expert_congr (fun d => congrArg (fun w => kept _ r (numbers w d)) (funext (h0 r))) h1 h2 h3 h4 C
  · rw [if_neg hr, if_neg hr, zeros_at]

/-- The result's array. -/
def answer : FVec Ideal S147456x1024 .bf16 := fun i => holds m ho c (block (i 0)) (place (i 0)) (i 1)

theorem emb_5 (t : Fin (cfgT m ho).N) (r : Fin 512) (C : Fin 1024) :
    (((cfgT m ho).win 5).blk t).view.emb (ix2 r C : S512x1024.Idx) = (ix2 (rowOf (blockAt m ho t) r) C : S147456x1024.Idx) := by
  obtain ⟨-, e0, e1⟩ := rows_places t
  funext a
  apply Fin.ext
  match a with
  | ⟨0, _⟩ =>
    show cc0_transform_5 (crd m ho t) 0 * 512 + 1 * r.val = t.val * 512 + r.val
    rw [e0, Nat.one_mul]
  | ⟨1, _⟩ =>
    show cc0_transform_5 (crd m ho t) 1 * 1024 + 1 * C.val = C.val
    rw [e1]; omega

theorem block_rowOf (b : Fin 288) (r : Fin 512) : block (rowOf b r) = b := Fin.ext (by show (b.val * 512 + r.val) / 512 = b.val; omega)
theorem place_rowOf (b : Fin 288) (r : Fin 512) : place (rowOf b r) = r := Fin.ext (by show (b.val * 512 + r.val) % 512 = r.val; omega)

theorem holds_rowOf (b : Fin 288) (r : Fin 512) (C : Fin 1024) :
    holds m ho c (block (rowOf b r)) (place (rowOf b r)) C = holds m ho c b r C := by rw [block_rowOf, place_rowOf]

theorem flushed_answer (t : Fin (cfgT m ho).N) :
    (dats m ho 0 c).flushed 5 t = (((cfgT m ho).win 5).blk t).view.read (Elt Ideal) (answer m ho c) := by
  show ((cfgT m ho).win 5).cut (crd m ho t) ((dats m ho 0 c).after 5 t) = _
  rw [after_5]
  funext y
  have h : ∀ y : S512x1024.Idx, leaves m ho c t y = answer m ho c ((((cfgT m ho).win 5).blk t).view.emb y) := fun y => by
    rw [eq_ix2 y]
    refine (leaves_at m ho c t (y 0) (y 1)).trans ((congrArg (answer m ho c) (emb_5 m ho t (y 0) (y 1))).trans ?_).symm
    exact holds_rowOf m ho c _ _ _
  have hx : ((cfgT m ho).win 5).xinj (crd m ho t) y = y := by
    funext a
    match a with | ⟨0, _⟩ => rfl | ⟨1, _⟩ => rfl
  exact (congrArg (leaves m ho c t) hx).trans (h y)

theorem flushes (t : Fin (cfgT m ho).N) : ((cfgT m ho).win 5).flush t = true := by
  rw [Pipeline.Window.flush_out _ rfl]
  by_cases h : t.val + 1 = grid0.N
  · exact .inl h
  · have ht : t.val + 1 < grid0.N := lt_of_le_of_ne t.isLt h
    refine .inr ⟨ht, fun e => ?_⟩
    have e' : cc0_transform_5 (crd m ho ⟨t.val + 1, ht⟩) 0 = cc0_transform_5 (crd m ho t) 0 := congrFun e (0 : Fin 2)
    have h1 := (rows_places ⟨t.val + 1, ht⟩).2.1
    have h2 := (rows_places t).2.1
    have h3 : t.val + 1 = t.val := h1.symm.trans (e'.trans h2)
    omega

theorem mem_blk (t : Fin (cfgT m ho).N) (i : S147456x1024.Idx) :
    i ∈ (((cfgT m ho).win 5).blk t).view.set ↔ ∀ a : Fin 2, cc0_transform_5 (crd m ho t) a * S512x1024.size a ≤ (i a).val
      ∧ (i a).val < cc0_transform_5 (crd m ho t) a * S512x1024.size a + S512x1024.size a := by
  have e := View.set_slice_whole main_v0 (((cfgT m ho).win 5).rect t)
  exact (iff_of_eq (congrArg (fun s => i ∈ s) e)).trans Rect.mem_set_unit

theorem covered (i : S147456x1024.Idx) : ∃ t : Fin (cfgT m ho).N, ((cfgT m ho).win 5).flush t = true ∧ i ∈ (((cfgT m ho).win 5).blk t).view.set := by
  have hi0 : (i 0).val < 147456 := (i 0).isLt
  have hi1 : (i 1).val < 1024 := (i 1).isLt
  have ht : (i 0).val / 512 < grid0.N := lt_of_lt_of_eq (by omega) N_0.symm
  refine ⟨⟨(i 0).val / 512, ht⟩, flushes m ho _, ?_⟩
  rw [mem_blk]
  obtain ⟨-, e0, e1⟩ := rows_places ⟨(i 0).val / 512, ht⟩
  intro a
  match a with
  | ⟨0, _⟩ =>
    show cc0_transform_5 (crd m ho ⟨(i 0).val / 512, ht⟩) 0 * 512 ≤ (i 0).val ∧ (i 0).val < cc0_transform_5 (crd m ho ⟨(i 0).val / 512, ht⟩) 0 * 512 + 512
    rw [e0]
    show (i 0).val / 512 * 512 ≤ (i 0).val ∧ (i 0).val < (i 0).val / 512 * 512 + 512
    omega
  | ⟨1, _⟩ =>
    show cc0_transform_5 (crd m ho ⟨(i 0).val / 512, ht⟩) 1 * 1024 ≤ (i 1).val ∧ (i 1).val < cc0_transform_5 (crd m ho ⟨(i 0).val / 512, ht⟩) 1 * 1024 + 1024
    rw [e1]
    omega

theorem final_answer : (dats m ho 0 c).arrAt 5 (cfgT m ho).N = answer m ho c :=
  (dats m ho 0 c).arrAt_eq_of_cover 5 _ (fun t _ => flushed_answer m ho c t) (covered m ho)

include ho in
/-- The run: the result's rows through their experts, the arguments unchanged. -/
theorem run_arrays : θ_run (Cert.Kernel2Ideal.defs (F := Ideal)) (onTc (τ := τ) (main (F := Ideal))) ⟨m, fun _ => 0, ρ⟩ fun r => ∀ c : Dev nD,
      r.2.mem ((c.tc : Thread nD τ).loc main_v0) = answer m ho c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c =>
    ⟨((h.1 c).1 (5 : Fin 6)).trans (final_answer m ho c),
     (h.1 c).2 main_arg0 rest_0,
     (h.1 c).2 main_arg1 rest_1,
     ((h.1 c).1 (0 : Fin 6)).trans (in_0 m ho c),
     ((h.1 c).1 (1 : Fin 6)).trans (in_1 m ho c),
     ((h.1 c).1 (2 : Fin 6)).trans (in_2 m ho c),
     ((h.1 c).1 (3 : Fin 6)).trans (in_3 m ho c),
     ((h.1 c).1 (4 : Fin 6)).trans (in_4 m ho c)⟩) (run_quiescent m ρ ho)

/-- The reference's result on the same arguments. -/
theorem reference_answer :
    Cert.FfnRef.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      = answer m ho c := by
  obtain rfl : c = 0 := Subsingleton.elim c 0
  funext i
  have hi : i = ix2 (i 0 : Fin 147456) (i 1 : Fin 1024) := by
    funext a
    match a with | ⟨0, _⟩ => rfl | ⟨1, _⟩ => rfl
  rw [hi]
  exact Cert.FfnRef.result_at (tE m) (tN m) (aX m 0) (aU m 0) (aB m 0) (aD m 0) (aC m 0) (nameOf m ho) (nameOf_word m ho) (i 0) (i 1)

end Cert.Ffn
end
-- ==== Proof.MixTile.lean ====
module

public import proofs.«01_k».proof.Proof.Gen.Kernel3Ideal.Skeleton
public import proofs.«01_k».proof.Proof.FfnMath
public import Idealize.ShloMosaic.Lib.Pointwise

/-!
# A token's combination, and the call's block read at an index
-/

@[expose] public section

set_option maxRecDepth 16384

noncomputable section

namespace Cert.Mix

open Idealize.ShloMosaic
open Cert.Ffn (low high numbers)

/-- A token's stream with its experts' rows. -/
def mixed (h : Fin 1024 → EReal) (w : Fin 4 → Fin 512 → BitVec 32) (g : Fin 4 → EReal) (c : Fin 1024) : EReal :=
  h c + ∑ k, numbers (w k) c * g k

/-- The final norm. -/
def normed (h n : Fin 1024 → EReal) (c : Fin 1024) : EReal :=
  h c * Ideal.rsqrt (Ideal.div (∑ x, h x * h x) (Ideal.ofBits .f32 1149239296#32) + Ideal.ofBits .f32 897988541#32) * n c

section
open Cert.Kernel3Ideal Cert.Kernel3Ideal.Gen

theorem low_vector (w : BitVec 32) : Ideal.ofBits .f32 (IntOp.shli .vector w 16#32) = low w := rfl

theorem lows_at (g : Vec Ideal S512x8 .f32) (x0 x1 x2 : Vec Ideal S512x512 .i32) (r : Fin 512) (c : Fin 512) :
    k0_pay5 (F := Ideal) g x0 x1 x2 (ix2 r c)
      = low (x0 (ix2 r c)) * g (ix2 r 0) + low (x1 (ix2 r c)) * g (ix2 r 1) + low (x2 (ix2 r c)) * g (ix2 r 2) := by
  pointwise [k0_pay5, k0_pay2, k0_pay3, k0_pay4]
  rfl

theorem highs_at (g : Vec Ideal S512x8 .f32) (x0 x1 x2 : Vec Ideal S512x512 .i32) (r : Fin 512) (c : Fin 512) :
    k0_pay6 (F := Ideal) g x0 x1 x2 (ix2 r c)
      = high (x0 (ix2 r c)) * g (ix2 r 0) + high (x1 (ix2 r c)) * g (ix2 r 1) + high (x2 (ix2 r c)) * g (ix2 r 2) := by
  pointwise [k0_pay6, k0_pay2, k0_pay3, k0_pay4]
  rfl

/-- The stream as the call makes it, its low columns from one sum and its high ones from another. -/
def halves (g : Vec Ideal S512x8 .f32) (a b : FVec Ideal S512x512 .f32) (x3 : Vec Ideal S512x512 .i32) (h : Vec Ideal S512x1024 .f32)
    (r : Fin 512) (c : Fin 1024) : EReal :=
  h (ix2 r c) + if hc : c.val < 512 then a (ix2 r ⟨c.val, hc⟩) + low (x3 (ix2 r ⟨c.val, hc⟩)) * g (ix2 r 3)
    else b (ix2 r ⟨c.val - 512, by omega⟩) + high (x3 (ix2 r ⟨c.val - 512, by omega⟩)) * g (ix2 r 3)

theorem halves_first (g : Vec Ideal S512x8 .f32) (a b : FVec Ideal S512x512 .f32) (x3 : Vec Ideal S512x512 .i32) (h : Vec Ideal S512x1024 .f32)
    (r x : Fin 512) : halves g a b x3 h r (Cert.Ffn.first x) = h (ix2 r (Cert.Ffn.first x)) + (a (ix2 r x) + low (x3 (ix2 r x)) * g (ix2 r 3)) := by
  unfold halves
  rw [dif_pos (show (Cert.Ffn.first x).val < 512 from x.isLt)]
  rfl

theorem halves_second (g : Vec Ideal S512x8 .f32) (a b : FVec Ideal S512x512 .f32) (x3 : Vec Ideal S512x512 .i32) (h : Vec Ideal S512x1024 .f32)
    (r x : Fin 512) : halves g a b x3 h r (Cert.Ffn.second x) = h (ix2 r (Cert.Ffn.second x)) + (b (ix2 r x) + high (x3 (ix2 r x)) * g (ix2 r 3)) := by
  have hv : (Cert.Ffn.second x).val = 512 + x.val := rfl
  unfold halves
  rw [dif_neg (by omega)]
  have e : (⟨(Cert.Ffn.second x).val - 512, by omega⟩ : Fin 512) = x := Fin.ext (by show (Cert.Ffn.second x).val - 512 = x.val; omega)
  rw [e]

theorem last_at (g : Vec Ideal S512x8 .f32) (a b : FVec Ideal S512x512 .f32) (x3 : Vec Ideal S512x512 .i32) (h : Vec Ideal S512x1024 .f32)
    (n : Vec Ideal S1x1024 .f32) (r : Fin 512) (c : Fin 1024) :
    k0_pay1 (F := Ideal) g a b x3 16#32 h n (ix2 r c) = normed (halves g a b x3 h r) (fun c => n (ix2 0 c)) c := by
  unfold normed
  rw [Cert.Ffn.sum_halves]
  simp only [halves_first, halves_second]
  pointwise [k0_pay1]
  rfl

/-- The block of a point from the blocks it reads. -/
def tile (x0 x1 x2 x3 : Vec Ideal S512x512 .i32) (g : Vec Ideal S512x8 .f32) (h : Vec Ideal S512x1024 .f32) (n : Vec Ideal S1x1024 .f32) :
    FVec Ideal S512x1024 .f32 :=
  k0_pay1 (F := Ideal) g (k0_pay5 (F := Ideal) g x0 x1 x2) (k0_pay6 (F := Ideal) g x0 x1 x2) x3 16#32 h n

theorem tile_at (x0 x1 x2 x3 : Vec Ideal S512x512 .i32) (g : Vec Ideal S512x8 .f32) (h : Vec Ideal S512x1024 .f32) (n : Vec Ideal S1x1024 .f32)
    (r : Fin 512) (c : Fin 1024) :
    tile x0 x1 x2 x3 g h n (ix2 r c)
      = normed (mixed (fun c => h (ix2 r c)) ![fun c => x0 (ix2 r c), fun c => x1 (ix2 r c), fun c => x2 (ix2 r c), fun c => x3 (ix2 r c)]
          ![g (ix2 r 0), g (ix2 r 1), g (ix2 r 2), g (ix2 r 3)]) (fun c => n (ix2 0 c)) c := by
  unfold tile
  rw [last_at]
  refine congrArg (fun s => normed s (fun c => n (ix2 0 c)) c) (funext fun c => ?_)
  unfold halves mixed
  rw [Fin.sum_univ_four]
  refine congrArg (h (ix2 r c) + ·) ?_
  by_cases hc : c.val < 512
  · rw [dif_pos hc, lows_at]
    simp only [numbers, dif_pos hc]
    rfl
  · rw [dif_neg hc, highs_at]
    simp only [numbers, dif_neg hc]
    rfl

end

end Cert.Mix
end
-- ==== Proof.MixRef.lean ====
module

public import proofs.«01_k».proof.Proof.Gen.Reference3Ideal
public import proofs.«01_k».proof.Proof.Gen.Reference3Ideal.Run
public import proofs.«01_k».proof.Proof.MixTile

/-!
# What the combination's reference computes
-/

@[expose] public section

set_option maxRecDepth 16384

noncomputable section

namespace Cert.MixRef

open Cert.Reference3Ideal Cert.Reference3Ideal.Gen
open Idealize.ShloMosaic Cert.Mix
open Cert.Ffn (low high numbers)

/-- The experts' rows as numbers. -/
def rows (w : IVec S16384x512 32) : FVec Ideal S16384x1024 .f32 :=
  concatenate S16384x1024 1 [⟨S16384x512, (bitcastToFloat (F := Ideal) .f32 (Host.shli w (broadcastInDim S16384x512 ![] bcast_S_S16384x512 (constantI S_ 32 16#32))))⟩, ⟨S16384x512, (bitcastToFloat (F := Ideal) .f32 (andi w (broadcastInDim S16384x512 ![] bcast_S_S16384x512 (constantI S_ 32 4294901760#32))))⟩] concatenates_S16384x512_S16384x512_S16384x1024_d1

/-- The last eighth's stream with its rows. -/
def stream (h : FVec Ideal S32768x1024 .f32) (y : FVec Ideal S16384x1024 .f32) (g : FVec Ideal S32768x8 .f32) : FVec Ideal S4096x1024 .f32 :=
  addf (extractStridedSlice S4096x1024 ![28672, 0] h slices_S32768x1024_S4096x1024_28672_0) (Host.reduceAdd (mulf (shapeCast _ y shapeCasts_S16384x1024_S4x4096x1024) (broadcastInDim S4x4096x1024 ![0, 1, 2] bcast_S4x4096x1_S4x4096x1024_0_1_2 (broadcastInDim S4x4096x1 ![0, 1] bcast_S4x4096_S4x4096x1_0_1 (transpose S4x4096 [1, 0] (extractStridedSlice S4096x4 ![28672, 0] g slices_S32768x8_S4096x4_28672_0) transposes_S4096x4_S4x4096_1_0)))) (constant S_ .f32 0x00000000#32) reducesTo_S4x4096x1024_S4096x1024_d0 h_S_)

/-- It under the final norm. -/
def scaled (h : FVec Ideal S4096x1024 .f32) (n : FVec Ideal S1024 .f32) : FVec Ideal S4096x1024 .f32 :=
  mulf (mulf h (broadcastInDim S4096x1024 ![0, 1] bcast_S4096x1_S4096x1024_0_1 (Host.rsqrt (addf (Host.divf (broadcastInDim S4096x1 ![0] bcast_S4096_S4096x1_0 (Host.reduceAdd (mulf h h) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 n))

/-- The other tokens before it. -/
def joined (b : FVec Ideal S32768x1024 .f32) (y : FVec Ideal S4096x1024 .f32) : FVec Ideal S32768x1024 .f32 :=
  concatenate S32768x1024 0 [⟨S28672x1024, (extractStridedSlice S28672x1024 ![0, 0] b slices_S32768x1024_S28672x1024_0_0)⟩, ⟨S4096x1024, y⟩] concatenates_S28672x1024_S4096x1024_S32768x1024_d0

def result (w : IVec S16384x512 32) (g : FVec Ideal S32768x8 .f32) (h : FVec Ideal S32768x1024 .f32) (n : FVec Ideal S1024 .f32)
    (b : FVec Ideal S32768x1024 .f32) : FVec Ideal S32768x1024 .f32 :=
  joined b (scaled (stream h (rows w) g) n)

theorem run_result (m : (ℓ : Loc nD τ sig) → Buf (Elt Ideal) ℓ) (ρ : Dev nD → PrngReg) :
    θ_run (Cert.Reference3Ideal.defs (F := Ideal)) (onTc (τ := τ) (main (F := Ideal))) ⟨m, fun _ => 0, ρ⟩ fun r => ∀ c : Dev nD,
      r.2.mem ((c.tc : Thread nD τ).loc main_v30)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

theorem rows_at (w : IVec S16384x512 32) (r : Fin 16384) (c : Fin 1024) : rows w (ix2 r c) = numbers (fun c => w (ix2 r c)) c := by
  pointwise [rows, numbers, low, high]

/-- A token of the last eighth, its row in the whole, and the row of its `k`-th expert. -/
def token (t : Fin 4096) : Fin 32768 := ⟨28672 + t.val, by omega⟩
def slot (k : Fin 4) (t : Fin 4096) : Fin 16384 := ⟨k.val * 4096 + t.val, by omega⟩
def gateOf (k : Fin 4) : Fin 8 := ⟨k.val, by omega⟩

theorem stream_at (h : FVec Ideal S32768x1024 .f32) (y : FVec Ideal S16384x1024 .f32) (g : FVec Ideal S32768x8 .f32) (t : Fin 4096) (c : Fin 1024) :
    stream h y g (ix2 t c) = h (ix2 (token t) c) + ∑ k : Fin 4, y (ix2 (slot k t) c) * g (ix2 (token t) (gateOf k)) := by
  pointwise [stream, token, slot, gateOf]

theorem scaled_at (h : FVec Ideal S4096x1024 .f32) (n : FVec Ideal S1024 .f32) (t : Fin 4096) (c : Fin 1024) :
    scaled h n (ix2 t c) = normed (fun c => h (ix2 t c)) (fun c => n (ix1 c)) c := by
  pointwise [scaled, normed]

/-- What a token of the last eighth is to hold. -/
def answer (w : IVec S16384x512 32) (g : FVec Ideal S32768x8 .f32) (h : FVec Ideal S32768x1024 .f32) (n : FVec Ideal S1024 .f32)
    (t : Fin 4096) (c : Fin 1024) : EReal :=
  normed (mixed (fun c => h (ix2 (token t) c)) (fun k c => w (ix2 (slot k t) c)) (fun k => g (ix2 (token t) (gateOf k)))) (fun c => n (ix1 c)) c

theorem result_at (w : IVec S16384x512 32) (g : FVec Ideal S32768x8 .f32) (h : FVec Ideal S32768x1024 .f32) (n : FVec Ideal S1024 .f32)
    (b : FVec Ideal S32768x1024 .f32) (r : Fin 32768) (c : Fin 1024) :
    result w g h n b (ix2 r c) = if hr : r.val < 28672 then b (ix2 r c) else answer w g h n ⟨r.val - 28672, by omega⟩ c := by
  unfold result
  generalize hs : scaled (stream h (rows w) g) n = s
  have e : joined b s (ix2 r c) = if hr : r.val < 28672 then b (ix2 r c) else s (ix2 ⟨r.val - 28672, by omega⟩ c) := by
    pointwise [joined]
  rw [e]
  by_cases hr : r.val < 28672
  · rw [dif_pos hr, dif_pos hr]
  · rw [dif_neg hr, dif_neg hr, ← hs, scaled_at]
    unfold answer mixed
    simp only [stream_at, rows_at]

end Cert.MixRef
end
-- ==== Proof.MixOut.lean ====
module

public import proofs.«01_k».proof.Proof.Gen.Kernel3Ideal.Value
public import proofs.«01_k».proof.Proof.MixRef

/-!
# The combination's result
-/

@[expose] public section

set_option maxRecDepth 16384

noncomputable section

namespace Cert.Mix

open Cert.Kernel3Ideal Cert.Kernel3Ideal.Gen Cert.Kernel3Ideal.Value
open Idealize.ShloMosaic Idealize.ShloMosaic.TcCoe Idealize.SL.Sem

theorem zeros2 : (![0, 0] : Fin 2 → Nat) = fun _ => 0 := funext fun a => by fin_cases a <;> rfl

/-- A point leaves the tile of the blocks it reads. -/
theorem out_tile (c : Dev nD) (i : grid0.Coords) (a1 : Memref sig .tc .vmem S512x512 .i32) (h1 : a1.IsWhole)
    (a2 : Memref sig .tc .vmem S512x512 .i32) (h2 : a2.IsWhole) (a3 : Memref sig .tc .vmem S512x512 .i32) (h3 : a3.IsWhole)
    (a4 : Memref sig .tc .vmem S512x512 .i32) (h4 : a4.IsWhole) (a5 : Memref sig .tc .vmem S512x8 .f32) (h5 : a5.IsWhole)
    (a6 : Memref sig .tc .vmem S512x1024 .f32) (h6 : a6.IsWhole) (a7 : Memref sig .tc .vmem S1x1024 .f32) (h7 : a7.IsWhole)
    (a9 : Memref sig .tc .vmem S512x1024 .f32) (h9 : a9.IsWhole) (x0 x1 x2 x3 : Vec Ideal S512x512 .i32) (g : Vec Ideal S512x8 .f32)
    (h : Vec Ideal S512x1024 .f32) (n : Vec Ideal S1x1024 .f32) :
    out0_A_7 (F := Ideal) c i a1 h1 a2 h2 a3 h3 a4 h4 a5 h5 a6 h6 a7 h7 a9 h9 x0 x1 x2 x3 g h n = tile x0 x1 x2 x3 g h n := by
  unfold out0_A_7
  rw [View.read_writes_eq_canon _ _ _ (cover0_A_7 c i a1 h1 a2 h2 a3 h3 a4 h4 a5 h5 a6 h6 a7 h7 a9 h9 x0 x1 x2 x3 g h n)]
  unfold kernelRun0_A
  dsimp only
  sl_unfold_words
  rw [View.canon_unit_zero zeros2]
  simp only [View.readAt_eq_ld, h1.read_unread, h2.read_unread, h3.read_unread, h4.read_unread, h5.read_unread, h6.read_unread, h7.read_unread,
    View.ld_unit_zero (S := S512x512) zeros2, View.ld_unit_zero (S := S512x8) zeros2, View.ld_unit_zero (S := S512x1024) zeros2,
    View.ld_unit_zero (S := S1x1024) zeros2]
  rfl

variable (m : (ℓ : Loc nD τ sig) → Buf (Elt Ideal) ℓ) (ρ : Dev nD → PrngReg) (c : Dev nD)

/-- The gain as a row, and the array the call writes into, as the call finds them. -/
theorem V_gain : V m c main_v0 = (broadcastInDim S1x1024 ![1] bcast_S1024_S1x1024_1 (m ((c : Thread nD τ).loc main_arg3)) : FVec Ideal S1x1024 .f32) := by
  rfl
theorem V_before : V m c main_v1 = m ((c : Thread nD τ).loc main_arg4) := by
  rfl

theorem places : ∀ t : Fin grid0.N,
    (win0_0.index t (0 : Fin 2) = t.val ∧ win0_0.index t (1 : Fin 2) = 0) ∧ (win0_1.index t (0 : Fin 2) = 8 + t.val ∧ win0_1.index t (1 : Fin 2) = 0)
    ∧ (win0_2.index t (0 : Fin 2) = 16 + t.val ∧ win0_2.index t (1 : Fin 2) = 0) ∧ (win0_3.index t (0 : Fin 2) = 24 + t.val ∧ win0_3.index t (1 : Fin 2) = 0)
    ∧ (win0_4.index t (0 : Fin 2) = 56 + t.val ∧ win0_4.index t (1 : Fin 2) = 0) ∧ (win0_5.index t (0 : Fin 2) = 56 + t.val ∧ win0_5.index t (1 : Fin 2) = 0)
    ∧ (win0_6.index t (0 : Fin 2) = 0 ∧ win0_6.index t (1 : Fin 2) = 0) ∧ (win0_7.index t (0 : Fin 2) = 56 + t.val ∧ win0_7.index t (1 : Fin 2) = 0) :=
  by decide +kernel

/-- The token at place `r` of point `t`, and the row of its `k`-th expert. -/
def tokenAt (t : Fin grid0.N) (r : Fin 512) : Fin 4096 := ⟨t.val * 512 + r.val, by have := lt_of_lt_of_eq t.isLt N_0; omega⟩

abbrev aW : IVec S16384x512 32 := m ((c : Thread nD τ).loc main_arg0)
abbrev aG : FVec Ideal S32768x8 .f32 := m ((c : Thread nD τ).loc main_arg1)
abbrev aH : FVec Ideal S32768x1024 .f32 := m ((c : Thread nD τ).loc main_arg2)
abbrev aN : FVec Ideal S1024 .f32 := m ((c : Thread nD τ).loc main_arg3)
abbrev aP : FVec Ideal S32768x1024 .f32 := m ((c : Thread nD τ).loc main_arg4)

open Cert.MixRef (token slot gateOf)

theorem words_0 (t : Fin grid0.N) (r d : Fin 512) : (iblk m c 0 t : Vec Ideal S512x512 .i32) (ix2 r d) = aW m c (ix2 (slot 0 (tokenAt t r)) d) := by
  obtain ⟨e0, e1⟩ := (places t).1
  refine (show _ = V m c main_arg0 (((cfg0.win 0).blk t).view.emb (ix2 r d)) from rfl).trans ((congrFun (V_main_arg0 m c) _).trans (congrArg (aW m c) ?_))
  funext a
  apply Fin.ext
  match a with
  | ⟨0, _⟩ => show win0_0.index t (0 : Fin 2) * 512 + 1 * r.val = 0 * 4096 + (t.val * 512 + r.val); omega
  | ⟨1, _⟩ => show win0_0.index t (1 : Fin 2) * 512 + 1 * d.val = d.val; omega

theorem words_1 (t : Fin grid0.N) (r d : Fin 512) : (iblk m c 1 t : Vec Ideal S512x512 .i32) (ix2 r d) = aW m c (ix2 (slot 1 (tokenAt t r)) d) := by
  obtain ⟨e0, e1⟩ := (places t).2.1
  refine (show _ = V m c main_arg0 (((cfg0.win 1).blk t).view.emb (ix2 r d)) from rfl).trans ((congrFun (V_main_arg0 m c) _).trans (congrArg (aW m c) ?_))
  funext a
  apply Fin.ext
  match a with
  | ⟨0, _⟩ => show win0_1.index t (0 : Fin 2) * 512 + 1 * r.val = 1 * 4096 + (t.val * 512 + r.val); omega
  | ⟨1, _⟩ => show win0_1.index t (1 : Fin 2) * 512 + 1 * d.val = d.val; omega

theorem words_2 (t : Fin grid0.N) (r d : Fin 512) : (iblk m c 2 t : Vec Ideal S512x512 .i32) (ix2 r d) = aW m c (ix2 (slot 2 (tokenAt t r)) d) := by
  obtain ⟨e0, e1⟩ := (places t).2.2.1
  refine (show _ = V m c main_arg0 (((cfg0.win 2).blk t).view.emb (ix2 r d)) from rfl).trans ((congrFun (V_main_arg0 m c) _).trans (congrArg (aW m c) ?_))
  funext a
  apply Fin.ext
  match a with
  | ⟨0, _⟩ => show win0_2.index t (0 : Fin 2) * 512 + 1 * r.val = 2 * 4096 + (t.val * 512 + r.val); omega
  | ⟨1, _⟩ => show win0_2.index t (1 : Fin 2) * 512 + 1 * d.val = d.val; omega

theorem words_3 (t : Fin grid0.N) (r d : Fin 512) : (iblk m c 3 t : Vec Ideal S512x512 .i32) (ix2 r d) = aW m c (ix2 (slot 3 (tokenAt t r)) d) := by
  obtain ⟨e0, e1⟩ := (places t).2.2.2.1
  refine (show _ = V m c main_arg0 (((cfg0.win 3).blk t).view.emb (ix2 r d)) from rfl).trans ((congrFun (V_main_arg0 m c) _).trans (congrArg (aW m c) ?_))
  funext a
  apply Fin.ext
  match a with
  | ⟨0, _⟩ => show win0_3.index t (0 : Fin 2) * 512 + 1 * r.val = 3 * 4096 + (t.val * 512 + r.val); omega
  | ⟨1, _⟩ => show win0_3.index t (1 : Fin 2) * 512 + 1 * d.val = d.val; omega

theorem gates_at (t : Fin grid0.N) (r : Fin 512) (k : Fin 8) : (iblk m c 4 t : Vec Ideal S512x8 .f32) (ix2 r k) = aG m c (ix2 (token (tokenAt t r)) k) := by
  obtain ⟨e0, e1⟩ := (places t).2.2.2.2.1
  refine (show _ = V m c main_arg1 (((cfg0.win 4).blk t).view.emb (ix2 r k)) from rfl).trans ((congrFun (V_main_arg1 m c) _).trans (congrArg (aG m c) ?_))
  funext a
  apply Fin.ext
  match a with
  | ⟨0, _⟩ => show win0_4.index t (0 : Fin 2) * 512 + 1 * r.val = 28672 + (t.val * 512 + r.val); omega
  | ⟨1, _⟩ => show win0_4.index t (1 : Fin 2) * 8 + 1 * k.val = k.val; omega

theorem stream_at (t : Fin grid0.N) (r : Fin 512) (d : Fin 1024) : (iblk m c 5 t : Vec Ideal S512x1024 .f32) (ix2 r d) = aH m c (ix2 (token (tokenAt t r)) d) := by
  obtain ⟨e0, e1⟩ := (places t).2.2.2.2.2.1
  refine (show _ = V m c main_arg2 (((cfg0.win 5).blk t).view.emb (ix2 r d)) from rfl).trans ((congrFun (V_main_arg2 m c) _).trans (congrArg (aH m c) ?_))
  funext a
  apply Fin.ext
  match a with
  | ⟨0, _⟩ => show win0_5.index t (0 : Fin 2) * 512 + 1 * r.val = 28672 + (t.val * 512 + r.val); omega
  | ⟨1, _⟩ => show win0_5.index t (1 : Fin 2) * 1024 + 1 * d.val = d.val; omega

/-- The gain as a row, at a column. -/
theorem row_at (n : FVec Ideal S1024 .f32) (d : Fin 1024) : (broadcastInDim S1x1024 ![1] bcast_S1024_S1x1024_1 n : FVec Ideal S1x1024 .f32) (ix2 0 d) = n (ix1 d) := by
  pointwise []

theorem gain_at (t : Fin grid0.N) (d : Fin 1024) : (iblk m c 6 t : Vec Ideal S1x1024 .f32) (ix2 0 d) = aN m c (ix1 d) := by
  obtain ⟨e0, e1⟩ := (places t).2.2.2.2.2.2.1
  refine (show _ = V m c main_v0 (((cfg0.win 6).blk t).view.emb (ix2 0 d)) from rfl).trans ((congrFun (V_gain m c) _).trans ?_)
  refine Eq.trans (congrArg (broadcastInDim S1x1024 ![1] bcast_S1024_S1x1024_1 (aN m c) : FVec Ideal S1x1024 .f32) ?_) (row_at (aN m c) d)
  funext a
  apply Fin.ext
  match a with
  | ⟨0, _⟩ => show win0_6.index t (0 : Fin 2) * 1 + 1 * 0 = 0; omega
  | ⟨1, _⟩ => show win0_6.index t (1 : Fin 2) * 1024 + 1 * d.val = d.val; omega

/-- The result's array. -/
abbrev answers : FVec Ideal S32768x1024 .f32 := Cert.MixRef.result (aW m c) (aG m c) (aH m c) (aN m c) (aP m c)

theorem tile_answer (t : Fin grid0.N) (r : Fin 512) (d : Fin 1024) :
    tile (iblk m c 0 t) (iblk m c 1 t) (iblk m c 2 t) (iblk m c 3 t) (iblk m c 4 t) (iblk m c 5 t) (iblk m c 6 t) (ix2 r d)
      = Cert.MixRef.answer (aW m c) (aG m c) (aH m c) (aN m c) (tokenAt t r) d := by
  refine (tile_at _ _ _ _ _ _ _ r d).trans ?_
  unfold Cert.MixRef.answer
  have hn : (fun d => (iblk m c 6 t : Vec Ideal S1x1024 .f32) (ix2 0 d)) = fun d => aN m c (ix1 d) := funext (gain_at m c t)
  have hh : (fun d => (iblk m c 5 t : Vec Ideal S512x1024 .f32) (ix2 r d)) = fun d => aH m c (ix2 (token (tokenAt t r)) d) := funext (stream_at m c t r)
  have hw : (![fun d => (iblk m c 0 t : Vec Ideal S512x512 .i32) (ix2 r d), fun d => (iblk m c 1 t : Vec Ideal S512x512 .i32) (ix2 r d),
      fun d => (iblk m c 2 t : Vec Ideal S512x512 .i32) (ix2 r d), fun d => (iblk m c 3 t : Vec Ideal S512x512 .i32) (ix2 r d)] : Fin 4 → Fin 512 → BitVec 32)
      = fun k d => aW m c (ix2 (slot k (tokenAt t r)) d) := by
    funext k d
    fin_cases k
    · exact words_0 m c t r d
    · exact words_1 m c t r d
    · exact words_2 m c t r d
    · exact words_3 m c t r d
  have hg : (![(iblk m c 4 t : Vec Ideal S512x8 .f32) (ix2 r 0), (iblk m c 4 t : Vec Ideal S512x8 .f32) (ix2 r 1),
      (iblk m c 4 t : Vec Ideal S512x8 .f32) (ix2 r 2), (iblk m c 4 t : Vec Ideal S512x8 .f32) (ix2 r 3)] : Fin 4 → EReal)
      = fun k => aG m c (ix2 (token (tokenAt t r)) (gateOf k)) := by
    funext k
    fin_cases k
    · exact gates_at m c t r 0
    · exact gates_at m c t r 1
    · exact gates_at m c t r 2
    · exact gates_at m c t r 3
  exact congrArg₂ (fun a b => normed a b d) (hh ▸ hw ▸ hg ▸ rfl) hn

theorem emb_7 (t : Fin grid0.N) (r : Fin 512) (d : Fin 1024) :
    ((cfg0.win 7).blk t).view.emb (ix2 r d : S512x1024.Idx) = (ix2 (token (tokenAt t r)) d : S32768x1024.Idx) := by
  obtain ⟨e0, e1⟩ := (places t).2.2.2.2.2.2.2
  funext a
  apply Fin.ext
  match a with
  | ⟨0, _⟩ => show win0_7.index t (0 : Fin 2) * 512 + 1 * r.val = 28672 + (t.val * 512 + r.val); omega
  | ⟨1, _⟩ => show win0_7.index t (1 : Fin 2) * 1024 + 1 * d.val = d.val; omega

/-- A token of the last eighth in the reference's result. -/
theorem answers_token (t : Fin 4096) (d : Fin 1024) :
    answers m c (ix2 (token t) d) = Cert.MixRef.answer (aW m c) (aG m c) (aH m c) (aN m c) t d := by
  refine (Cert.MixRef.result_at _ _ _ _ _ (token t) d).trans ?_
  have hv : (token t).val = 28672 + t.val := rfl
  rw [dif_neg (by omega)]
  exact congrArg (fun t => Cert.MixRef.answer (aW m c) (aG m c) (aH m c) (aN m c) t d) (Fin.ext (by show (token t).val - 28672 = t.val; omega))

theorem written (t : Fin cfg0.N) (r : Fin 512) (d : Fin 1024) :
    ((dats m 0 c).arrAt 7 cfg0.N : FVec Ideal S32768x1024 .f32) (ix2 (token (tokenAt t r)) d) = answers m c (ix2 (token (tokenAt t r)) d) := by
  have h := congrFun ((blocks7 m c t (flush0_7 t)).trans ((flushed7_A m c t).trans (congrArg ((cfg0.win 7).cut (grid0.coords t)) (out_tile c _ _ _ _ _ _ _ _ _ _ _ _ _ _ _ _ _ _ _ _ _ _ _ _)))) (ix2 r d : S512x1024.Idx)
  have hx : (cfg0.win 7).xinj (grid0.coords t) (ix2 r d : S512x1024.Idx) = (ix2 r d : S512x1024.Idx) := by
    funext a
    match a with | ⟨0, _⟩ => rfl | ⟨1, _⟩ => rfl
  refine (congrArg ((dats m 0 c).arrAt 7 cfg0.N) (emb_7 t r d)).symm.trans (h.trans ?_)
  refine (congrArg (tile (iblk m c 0 t) (iblk m c 1 t) (iblk m c 2 t) (iblk m c 3 t) (iblk m c 4 t) (iblk m c 5 t) (iblk m c 6 t)) hx).trans ?_
  exact (tile_answer m c t r d).trans (answers_token m c _ d).symm

theorem mem_blk7 (t : Fin grid0.N) (i : S32768x1024.Idx) (h : i ∈ ((cfg0.win 7).blk t).view.set) : 28672 ≤ (i 0).val := by
  have e := View.set_slice_whole main_v1 ((cfg0.win 7).rect t)
  have h' := (((iff_of_eq (congrArg (fun s => i ∈ s) e)).trans Rect.mem_set_unit).mp h (0 : Fin 2)).1
  have e0 := (places t).2.2.2.2.2.2.2.1
  have h'' : win0_7.index t (0 : Fin 2) * 512 ≤ (i 0).val := h'
  omega

theorem final_at (r : Fin 32768) (d : Fin 1024) :
    ((dats m 0 c).arrAt 7 cfg0.N : FVec Ideal S32768x1024 .f32) (ix2 r d) = answers m c (ix2 r d) := by
  by_cases hr : r.val < 28672
  · refine (entry7 m c (ix2 r d) fun t _ hi => absurd (mem_blk7 t _ hi) (Nat.not_le.mpr hr)).trans ((congrFun (V_before m c) _).trans ?_)
    exact ((Cert.MixRef.result_at _ _ _ _ _ r d).trans (dif_pos hr)).symm
  · have ht : (r.val - 28672) / 512 < grid0.N := lt_of_lt_of_eq (by omega) N_0.symm
    have e : r = token (tokenAt ⟨(r.val - 28672) / 512, ht⟩ ⟨(r.val - 28672) % 512, by omega⟩) :=
      Fin.ext (by show r.val = 28672 + ((r.val - 28672) / 512 * 512 + (r.val - 28672) % 512); omega)
    rw [e]
    exact written m c _ _ d

theorem final_answers : (dats m 0 c).arrAt 7 cfg0.N = answers m c := by
  funext i
  have hi : i = ix2 (i 0 : Fin 32768) (i 1 : Fin 1024) := by
    funext a
    match a with | ⟨0, _⟩ => rfl | ⟨1, _⟩ => rfl
  rw [hi]
  exact final_at m c (i 0) (i 1)

/-- The run: the last eighth's tokens combined, the others and the arguments unchanged. -/
theorem run_answers : θ_run (Cert.Kernel3Ideal.defs (F := Ideal)) (onTc (τ := τ) (main (F := Ideal))) ⟨m, fun _ => 0, ρ⟩ fun r => ∀ c : Dev nD,
      r.2.mem ((c.tc : Thread nD τ).loc main_v1) = answers m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (final_answers m c), (h c).2⟩) (run_blocks m ρ)

end Cert.Mix
end
-- ==== Proof.lean ====
/- The claim of Defs.lean: the frames, the rounding dropped, and the equations of the attention, the experts and the combination with their references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_experts_named
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Out
public import proofs.«01_k».proof.Proof.FfnPre
public import proofs.«01_k».proof.Proof.FfnOut
public import proofs.«01_k».proof.Proof.MixOut
public import Idealize.ShloMosaic.Adequacy
public import Idealize.ShloMosaic.Init

@[expose] public section

noncomputable section

namespace Cert.Proof

open Idealize.ShloMosaic Idealize.SL.Sem Cert.Kernel

/-- The two programs' body tables are one table: their one body has one text. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l x
  match l, x with
  | ⟨0, _⟩, (t, s) => rfl

theorem tables_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

/-- The attention runs on words, leaves its arguments as they were and every counter at zero; its text is the idealized program's. -/
theorem frame_kernel : Cert.quiescent_Kernel := fun m ρ _ => by
  rw [tables_eq]
  exact (θ_run Cert.KernelIdeal.defs _ _).mono (fun _ h => h) (Cert.Att.frame_any (F := Bits) m ρ)

/-- The same over the extended reals. -/
theorem frame_ideal : Cert.quiescent_KernelIdeal := fun m ρ _ => Cert.Att.frame_any (F := Ideal) m ρ

/-- The reference runs over the extended reals; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On real arguments the attention's result is the reference's. -/
theorem equation : Cert.algebraic_KernelIdeal_ReferenceIdeal_pre_finite := fun m g m' g' hpre hargs => by
  have hreal := fun c => Cert.Att.finite_real _ _ _ (hpre c)
  choose qr hq using fun c => (hreal c).1
  choose kr hk using fun c => (hreal c).2.1
  choose vr hv using fun c => (hreal c).2.2
  refine ⟨fun c => Cert.Att.answer (fun b r e => qr c (ix3 b r e)) (fun b r e => kr c (ix3 b r e)) (fun b r e => vr c (ix3 b r e)), ?_, ?_⟩
  · exact (θ_run (Cert.KernelIdeal.defs (F := Ideal)) _ _).mono (fun r h c =>
      ⟨(h c).1.trans (Cert.Att.final_answer m c _ _ _ (fun _ _ _ => hq c _) (fun _ _ _ => hk c _) (fun _ _ _ => hv c _)), (h c).2⟩)
      (Cert.Att.run_arrays m g)
  · refine (θ_run (Cert.ReferenceIdeal.defs (F := Ideal)) _ _).mono (fun r h c => ⟨(h c).1.trans ?_, (h c).2⟩) (Cert.AttRef.run_result m' g')
    rw [(hargs c).1, (hargs c).2.1, (hargs c).2.2]
    exact Cert.Att.reference_answer _ _ _ _ _ _ (fun _ _ _ => hq c _) (fun _ _ _ => hk c _) (fun _ _ _ => hv c _)

/-- The experts' two programs have one body text too. -/
theorem bodies_eq2 : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc ?_
  funext l x
  match l, x with
  | ⟨0, _⟩, (t, s) => rfl

theorem tables_eq2 : @Cert.Kernel2.defs Bits _ Cert.Kernel2.Gen.facts = @Cert.Kernel2Ideal.defs Bits _ Cert.Kernel2Ideal.Gen.facts :=
  congrArg (Pipeline.defs (Cert.Kernel2Ideal.pcfgs (F := Bits))) bodies_eq2

/-- The experts run on words where every block names an expert and none with rows follows a rowless block of its own expert. -/
theorem frame_kernel2 : Cert.quiescent_Kernel2 := fun m ρ hpre => by
  rw [tables_eq2]
  exact (θ_run Cert.Kernel2Ideal.defs _ _).mono (fun _ h => h)
    (Cert.Ffn.frame_any (F := Bits) m ρ (Cert.Ffn.ordered _ _ _ _ _ _ _ (hpre 0)))

/-- The same over the extended reals. -/
theorem frame_ideal2 : Cert.quiescent_Kernel2Ideal := fun m ρ hpre =>
  Cert.Ffn.frame_any (F := Ideal) m ρ (Cert.Ffn.ordered _ _ _ _ _ _ _ (hpre 0))

/-- The experts' reference runs over the extended reals; it declares no counter. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The experts' result is their reference's. -/
theorem equation2 : Cert.algebraic_Kernel2Ideal_Reference2Ideal := fun m g m' g' hpre hargs => by
  have ho := Cert.Ffn.ordered _ _ _ _ _ _ _ (hpre 0)
  refine ⟨fun c => Cert.Ffn.answer m ho c, Cert.Ffn.run_arrays m g ho, ?_⟩
  refine (θ_run (Cert.Reference2Ideal.defs (F := Ideal)) _ _).mono (fun r h c => ⟨(h c).1.trans ?_, (h c).2⟩) (Cert.FfnRef.run_result m' g')
  obtain ⟨h0, h1, h2, h3, h4, h5, h6⟩ := hargs c
  rw [h0, h1, h2, h3, h4, h5, h6]
  exact Cert.Ffn.reference_answer m ho c

/-- The combination runs on words, leaves its arguments as they were and every counter at zero. -/
theorem frame_kernel3 : Cert.quiescent_Kernel3 := fun m ρ _ => Cert.Kernel3.Gen.frame (F := Bits) m ρ

/-- The same over the extended reals. -/
theorem frame_ideal3 : Cert.quiescent_Kernel3Ideal := fun m ρ _ => Cert.Kernel3Ideal.Gen.frame (F := Ideal) m ρ

/-- The combination's reference runs over the extended reals; it declares no counter. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The combination's result is its reference's. -/
theorem equation3 : Cert.algebraic_Kernel3Ideal_Reference3Ideal := fun m g m' g' _ hargs => by
  refine ⟨fun c => Cert.Mix.answers m c, Cert.Mix.run_answers m g, ?_⟩
  refine (θ_run (Cert.Reference3Ideal.defs (F := Ideal)) _ _).mono (fun r h c => ⟨(h c).1.trans ?_, (h c).2⟩) (Cert.MixRef.run_result m' g')
  obtain ⟨h0, h1, h2, h3, h4⟩ := hargs c
  rw [h0, h1, h2, h3, h4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_experts_named.Gen.facts,
  frame_kernel, frame_ideal, fun m ρ _ => frame_ideal m ρ trivial, frame_reference, fun m ρ _ => frame_reference m ρ trivial,
  frame_kernel2, frame_ideal2, frame_reference2, fun m ρ _ => frame_reference2 m ρ trivial,
  frame_kernel3, frame_ideal3, frame_reference3,
  trivial, equation, trivial, equation2, trivial, equation3⟩

end Cert.Proof

end
